-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_proj_inputs [hPre_proj_inputs : Cert.Pre_proj_inputs.Facts] (m : (ℓ : Loc Cert.ProjIdeal.nD Cert.ProjIdeal.τ Cert.ProjIdeal.sig) → Buf (Elt Ideal) ℓ) : Prop :=
  ∀ c : Dev Cert.ProjIdeal.nD,
    (Cert.Pre_proj_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7)) (m ((c.tc : Thread Cert.ProjIdeal.nD Cert.ProjIdeal.τ).loc Cert.ProjIdeal.main_arg8)) (m ((c.tc : Thread Cert.ProjIdeal.nD Cert.ProjIdeal.τ).loc Cert.ProjIdeal.main_arg9)) (m ((c.tc : Thread Cert.ProjIdeal.nD Cert.ProjIdeal.τ).loc Cert.ProjIdeal.main_arg10))) = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_proj_inputs [hPre_proj_inputs : Cert.Pre_proj_inputs.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_proj_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7)) (m ((c.tc : Thread Cert.ProjRefIdeal.nD Cert.ProjRefIdeal.τ).loc Cert.ProjRefIdeal.main_arg8)) (m ((c.tc : Thread Cert.ProjRefIdeal.nD Cert.ProjRefIdeal.τ).loc Cert.ProjRefIdeal.main_arg9)) (m ((c.tc : Thread Cert.ProjRefIdeal.nD Cert.ProjRefIdeal.τ).loc Cert.ProjRefIdeal.main_arg10))) = (fun _ => 1#1)

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaIdeal_delta_inputs [hPre_delta_inputs : Cert.Pre_delta_inputs.Facts] (m : (ℓ : Loc Cert.DeltaIdeal.nD Cert.DeltaIdeal.τ Cert.DeltaIdeal.sig) → Buf (Elt Ideal) ℓ) : Prop :=
  ∀ c : Dev Cert.DeltaIdeal.nD,
    (Cert.Pre_delta_inputs.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3)) (m ((c.tc : Thread Cert.DeltaIdeal.nD Cert.DeltaIdeal.τ).loc Cert.DeltaIdeal.main_arg4)) (m ((c.tc : Thread Cert.DeltaIdeal.nD Cert.DeltaIdeal.τ).loc Cert.DeltaIdeal.main_arg5))) = (fun _ => 1#1)

def Pre_DeltaRefIdeal (m : (ℓ : Loc Cert.DeltaRefIdeal.nD Cert.DeltaRefIdeal.τ Cert.DeltaRefIdeal.sig) → Buf (Elt Ideal) ℓ) : Prop :=
  True

def Pre_DeltaRefIdeal_delta_inputs [hPre_delta_inputs : Cert.Pre_delta_inputs.Facts] (m : (ℓ : Loc Cert.DeltaRefIdeal.nD Cert.DeltaRefIdeal.τ Cert.DeltaRefIdeal.sig) → Buf (Elt Ideal) ℓ) : Prop :=
  ∀ c : Dev Cert.DeltaRefIdeal.nD,
    (Cert.Pre_delta_inputs.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3)) (m ((c.tc : Thread Cert.DeltaRefIdeal.nD Cert.DeltaRefIdeal.τ).loc Cert.DeltaRefIdeal.main_arg4)) (m ((c.tc : Thread Cert.DeltaRefIdeal.nD Cert.DeltaRefIdeal.τ).loc Cert.DeltaRefIdeal.main_arg5))) = (fun _ => 1#1)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7)
      ∧ r.2.mem ((c.tc : Thread Cert.Proj.nD Cert.Proj.τ).loc Cert.Proj.main_arg8) = m ((c.tc : Thread Cert.Proj.nD Cert.Proj.τ).loc Cert.Proj.main_arg8)
      ∧ r.2.mem ((c.tc : Thread Cert.Proj.nD Cert.Proj.τ).loc Cert.Proj.main_arg9) = m ((c.tc : Thread Cert.Proj.nD Cert.Proj.τ).loc Cert.Proj.main_arg9)
      ∧ r.2.mem ((c.tc : Thread Cert.Proj.nD Cert.Proj.τ).loc Cert.Proj.main_arg10) = m ((c.tc : Thread Cert.Proj.nD Cert.Proj.τ).loc Cert.Proj.main_arg10))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ r.2.sem = fun _ => 0)

def quiescent_ProjIdeal_pre_proj_inputs [hProjIdeal : Cert.ProjIdeal.Facts] [hPre_proj_inputs : Cert.Pre_proj_inputs.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_proj_inputs m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
      ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
      ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
      ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10))
      ∧ r.2.sem = fun _ => 0)

def quiescent_ProjRefIdeal_pre_proj_inputs [hProjRefIdeal : Cert.ProjRefIdeal.Facts] [hPre_proj_inputs : Cert.Pre_proj_inputs.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_proj_inputs m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7)
      ∧ r.2.mem ((c.tc : Thread Cert.ProjRefIdeal.nD Cert.ProjRefIdeal.τ).loc Cert.ProjRefIdeal.main_arg8) = m ((c.tc : Thread Cert.ProjRefIdeal.nD Cert.ProjRefIdeal.τ).loc Cert.ProjRefIdeal.main_arg8)
      ∧ r.2.mem ((c.tc : Thread Cert.ProjRefIdeal.nD Cert.ProjRefIdeal.τ).loc Cert.ProjRefIdeal.main_arg9) = m ((c.tc : Thread Cert.ProjRefIdeal.nD Cert.ProjRefIdeal.τ).loc Cert.ProjRefIdeal.main_arg9)
      ∧ r.2.mem ((c.tc : Thread Cert.ProjRefIdeal.nD Cert.ProjRefIdeal.τ).loc Cert.ProjRefIdeal.main_arg10) = m ((c.tc : Thread Cert.ProjRefIdeal.nD Cert.ProjRefIdeal.τ).loc Cert.ProjRefIdeal.main_arg10))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3)
      ∧ r.2.mem ((c.tc : Thread Cert.Delta.nD Cert.Delta.τ).loc Cert.Delta.main_arg4) = m ((c.tc : Thread Cert.Delta.nD Cert.Delta.τ).loc Cert.Delta.main_arg4)
      ∧ r.2.mem ((c.tc : Thread Cert.Delta.nD Cert.Delta.τ).loc Cert.Delta.main_arg5) = m ((c.tc : Thread Cert.Delta.nD Cert.Delta.τ).loc Cert.Delta.main_arg5))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5))
      ∧ r.2.sem = fun _ => 0)

def quiescent_DeltaIdeal_pre_delta_inputs [hDeltaIdeal : Cert.DeltaIdeal.Facts] [hPre_delta_inputs : Cert.Pre_delta_inputs.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal_delta_inputs m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
      ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
      ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3)
      ∧ r.2.mem ((c.tc : Thread Cert.DeltaRefIdeal.nD Cert.DeltaRefIdeal.τ).loc Cert.DeltaRefIdeal.main_arg4) = m ((c.tc : Thread Cert.DeltaRefIdeal.nD Cert.DeltaRefIdeal.τ).loc Cert.DeltaRefIdeal.main_arg4)
      ∧ r.2.mem ((c.tc : Thread Cert.DeltaRefIdeal.nD Cert.DeltaRefIdeal.τ).loc Cert.DeltaRefIdeal.main_arg5) = m ((c.tc : Thread Cert.DeltaRefIdeal.nD Cert.DeltaRefIdeal.τ).loc Cert.DeltaRefIdeal.main_arg5))
      ∧ r.2.sem = fun _ => 0)

def quiescent_DeltaRefIdeal_pre_delta_inputs [hDeltaRefIdeal : Cert.DeltaRefIdeal.Facts] [hPre_delta_inputs : Cert.Pre_delta_inputs.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal_delta_inputs m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3)
      ∧ r.2.mem ((c.tc : Thread Cert.DeltaRefIdeal.nD Cert.DeltaRefIdeal.τ).loc Cert.DeltaRefIdeal.main_arg4) = m ((c.tc : Thread Cert.DeltaRefIdeal.nD Cert.DeltaRefIdeal.τ).loc Cert.DeltaRefIdeal.main_arg4)
      ∧ r.2.mem ((c.tc : Thread Cert.DeltaRefIdeal.nD Cert.DeltaRefIdeal.τ).loc Cert.DeltaRefIdeal.main_arg5) = m ((c.tc : Thread Cert.DeltaRefIdeal.nD Cert.DeltaRefIdeal.τ).loc Cert.DeltaRefIdeal.main_arg5))
      ∧ r.2.sem = fun _ => 0)

def preserves_Proj_ProjIdeal : Prop :=
  True

def algebraic_ProjIdeal_ProjRefIdeal_pre_proj_inputs [hProjIdeal : Cert.ProjIdeal.Facts] [hProjRefIdeal : Cert.ProjRefIdeal.Facts] [hPre_proj_inputs : Cert.Pre_proj_inputs.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_proj_inputs m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)
      ∧ m' ((c.tc : Thread Cert.ProjRefIdeal.nD Cert.ProjRefIdeal.τ).loc Cert.ProjRefIdeal.main_arg8) = m ((c.tc : Thread Cert.ProjIdeal.nD Cert.ProjIdeal.τ).loc Cert.ProjIdeal.main_arg8)
      ∧ m' ((c.tc : Thread Cert.ProjRefIdeal.nD Cert.ProjRefIdeal.τ).loc Cert.ProjRefIdeal.main_arg9) = m ((c.tc : Thread Cert.ProjIdeal.nD Cert.ProjIdeal.τ).loc Cert.ProjIdeal.main_arg9)
      ∧ m' ((c.tc : Thread Cert.ProjRefIdeal.nD Cert.ProjRefIdeal.τ).loc Cert.ProjRefIdeal.main_arg10) = m ((c.tc : Thread Cert.ProjIdeal.nD Cert.ProjIdeal.τ).loc Cert.ProjIdeal.main_arg10)) →
    ∃ (v0 : (c : Dev Cert.ProjIdeal.nD) → Buf (Elt Ideal) ((c.tc : Thread Cert.ProjIdeal.nD Cert.ProjIdeal.τ).loc Cert.ProjIdeal.main_v36_0)) (v1 : (c : Dev Cert.ProjIdeal.nD) → Buf (Elt Ideal) ((c.tc : Thread Cert.ProjIdeal.nD Cert.ProjIdeal.τ).loc Cert.ProjIdeal.main_v36_1)) (v2 : (c : Dev Cert.ProjIdeal.nD) → Buf (Elt Ideal) ((c.tc : Thread Cert.ProjIdeal.nD Cert.ProjIdeal.τ).loc Cert.ProjIdeal.main_v36_2)) (v3 : (c : Dev Cert.ProjIdeal.nD) → Buf (Elt Ideal) ((c.tc : Thread Cert.ProjIdeal.nD Cert.ProjIdeal.τ).loc Cert.ProjIdeal.main_v36_3)) (v4 : (c : Dev Cert.ProjIdeal.nD) → Buf (Elt Ideal) ((c.tc : Thread Cert.ProjIdeal.nD Cert.ProjIdeal.τ).loc Cert.ProjIdeal.main_v36_4)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v36_0) = v0 c
          ∧ r.2.mem ((c.tc : Thread Cert.ProjIdeal.nD Cert.ProjIdeal.τ).loc Cert.ProjIdeal.main_v36_1) = v1 c
          ∧ r.2.mem ((c.tc : Thread Cert.ProjIdeal.nD Cert.ProjIdeal.τ).loc Cert.ProjIdeal.main_v36_2) = v2 c
          ∧ r.2.mem ((c.tc : Thread Cert.ProjIdeal.nD Cert.ProjIdeal.τ).loc Cert.ProjIdeal.main_v36_3) = v3 c
          ∧ r.2.mem ((c.tc : Thread Cert.ProjIdeal.nD Cert.ProjIdeal.τ).loc Cert.ProjIdeal.main_v36_4) = v4 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7)
          ∧ r.2.mem ((c.tc : Thread Cert.ProjIdeal.nD Cert.ProjIdeal.τ).loc Cert.ProjIdeal.main_arg8) = m ((c.tc : Thread Cert.ProjIdeal.nD Cert.ProjIdeal.τ).loc Cert.ProjIdeal.main_arg8)
          ∧ r.2.mem ((c.tc : Thread Cert.ProjIdeal.nD Cert.ProjIdeal.τ).loc Cert.ProjIdeal.main_arg9) = m ((c.tc : Thread Cert.ProjIdeal.nD Cert.ProjIdeal.τ).loc Cert.ProjIdeal.main_arg9)
          ∧ r.2.mem ((c.tc : Thread Cert.ProjIdeal.nD Cert.ProjIdeal.τ).loc Cert.ProjIdeal.main_arg10) = m ((c.tc : Thread Cert.ProjIdeal.nD Cert.ProjIdeal.τ).loc Cert.ProjIdeal.main_arg10))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v91) = v0 c
          ∧ r.2.mem ((c.tc : Thread Cert.ProjRefIdeal.nD Cert.ProjRefIdeal.τ).loc Cert.ProjRefIdeal.main_v92) = v1 c
          ∧ r.2.mem ((c.tc : Thread Cert.ProjRefIdeal.nD Cert.ProjRefIdeal.τ).loc Cert.ProjRefIdeal.main_v93) = v2 c
          ∧ r.2.mem ((c.tc : Thread Cert.ProjRefIdeal.nD Cert.ProjRefIdeal.τ).loc Cert.ProjRefIdeal.main_v75) = v3 c
          ∧ r.2.mem ((c.tc : Thread Cert.ProjRefIdeal.nD Cert.ProjRefIdeal.τ).loc Cert.ProjRefIdeal.main_v90) = v4 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7)
          ∧ r.2.mem ((c.tc : Thread Cert.ProjRefIdeal.nD Cert.ProjRefIdeal.τ).loc Cert.ProjRefIdeal.main_arg8) = m' ((c.tc : Thread Cert.ProjRefIdeal.nD Cert.ProjRefIdeal.τ).loc Cert.ProjRefIdeal.main_arg8)
          ∧ r.2.mem ((c.tc : Thread Cert.ProjRefIdeal.nD Cert.ProjRefIdeal.τ).loc Cert.ProjRefIdeal.main_arg9) = m' ((c.tc : Thread Cert.ProjRefIdeal.nD Cert.ProjRefIdeal.τ).loc Cert.ProjRefIdeal.main_arg9)
          ∧ r.2.mem ((c.tc : Thread Cert.ProjRefIdeal.nD Cert.ProjRefIdeal.τ).loc Cert.ProjRefIdeal.main_arg10) = m' ((c.tc : Thread Cert.ProjRefIdeal.nD Cert.ProjRefIdeal.τ).loc Cert.ProjRefIdeal.main_arg10))

def preserves_Delta_DeltaIdeal : Prop :=
  True

def algebraic_DeltaIdeal_DeltaRefIdeal_pre_delta_inputs [hDeltaIdeal : Cert.DeltaIdeal.Facts] [hDeltaRefIdeal : Cert.DeltaRefIdeal.Facts] [hPre_delta_inputs : Cert.Pre_delta_inputs.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal_delta_inputs m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)
      ∧ m' ((c.tc : Thread Cert.DeltaRefIdeal.nD Cert.DeltaRefIdeal.τ).loc Cert.DeltaRefIdeal.main_arg3) = m ((c.tc : Thread Cert.DeltaIdeal.nD Cert.DeltaIdeal.τ).loc Cert.DeltaIdeal.main_arg3)
      ∧ m' ((c.tc : Thread Cert.DeltaRefIdeal.nD Cert.DeltaRefIdeal.τ).loc Cert.DeltaRefIdeal.main_arg4) = m ((c.tc : Thread Cert.DeltaIdeal.nD Cert.DeltaIdeal.τ).loc Cert.DeltaIdeal.main_arg4)
      ∧ m' ((c.tc : Thread Cert.DeltaRefIdeal.nD Cert.DeltaRefIdeal.τ).loc Cert.DeltaRefIdeal.main_arg5) = m ((c.tc : Thread Cert.DeltaIdeal.nD Cert.DeltaIdeal.τ).loc Cert.DeltaIdeal.main_arg5)) →
    ∃ (v0 : (c : Dev Cert.DeltaIdeal.nD) → Buf (Elt Ideal) ((c.tc : Thread Cert.DeltaIdeal.nD Cert.DeltaIdeal.τ).loc Cert.DeltaIdeal.main_v5_0)) (v1 : (c : Dev Cert.DeltaIdeal.nD) → Buf (Elt Ideal) ((c.tc : Thread Cert.DeltaIdeal.nD Cert.DeltaIdeal.τ).loc Cert.DeltaIdeal.main_v5_1)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v5_0) = v0 c
          ∧ r.2.mem ((c.tc : Thread Cert.DeltaIdeal.nD Cert.DeltaIdeal.τ).loc Cert.DeltaIdeal.main_v5_1) = v1 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3)
          ∧ r.2.mem ((c.tc : Thread Cert.DeltaIdeal.nD Cert.DeltaIdeal.τ).loc Cert.DeltaIdeal.main_arg4) = m ((c.tc : Thread Cert.DeltaIdeal.nD Cert.DeltaIdeal.τ).loc Cert.DeltaIdeal.main_arg4)
          ∧ r.2.mem ((c.tc : Thread Cert.DeltaIdeal.nD Cert.DeltaIdeal.τ).loc Cert.DeltaIdeal.main_arg5) = m ((c.tc : Thread Cert.DeltaIdeal.nD Cert.DeltaIdeal.τ).loc Cert.DeltaIdeal.main_arg5))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v11) = v0 c
          ∧ r.2.mem ((c.tc : Thread Cert.DeltaRefIdeal.nD Cert.DeltaRefIdeal.τ).loc Cert.DeltaRefIdeal.main_v7_6) = v1 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3)
          ∧ r.2.mem ((c.tc : Thread Cert.DeltaRefIdeal.nD Cert.DeltaRefIdeal.τ).loc Cert.DeltaRefIdeal.main_arg4) = m' ((c.tc : Thread Cert.DeltaRefIdeal.nD Cert.DeltaRefIdeal.τ).loc Cert.DeltaRefIdeal.main_arg4)
          ∧ r.2.mem ((c.tc : Thread Cert.DeltaRefIdeal.nD Cert.DeltaRefIdeal.τ).loc Cert.DeltaRefIdeal.main_arg5) = m' ((c.tc : Thread Cert.DeltaRefIdeal.nD Cert.DeltaRefIdeal.τ).loc Cert.DeltaRefIdeal.main_arg5))

def Claim : Prop :=
  ∃ (hProj : Cert.Proj.Facts) (hProjIdeal : Cert.ProjIdeal.Facts) (hProjRefIdeal : Cert.ProjRefIdeal.Facts) (hDelta : Cert.Delta.Facts) (hDeltaIdeal : Cert.DeltaIdeal.Facts) (hDeltaRefIdeal : Cert.DeltaRefIdeal.Facts) (hPre_proj_inputs : Cert.Pre_proj_inputs.Facts) (hPre_delta_inputs : Cert.Pre_delta_inputs.Facts),
    quiescent_Proj (hProj := hProj)
    ∧ quiescent_ProjIdeal (hProjIdeal := hProjIdeal)
    ∧ quiescent_ProjIdeal_pre_proj_inputs (hProjIdeal := hProjIdeal) (hPre_proj_inputs := hPre_proj_inputs)
    ∧ quiescent_ProjRefIdeal (hProjRefIdeal := hProjRefIdeal)
    ∧ quiescent_ProjRefIdeal_pre_proj_inputs (hProjRefIdeal := hProjRefIdeal) (hPre_proj_inputs := hPre_proj_inputs)
    ∧ quiescent_Delta (hDelta := hDelta)
    ∧ quiescent_DeltaIdeal (hDeltaIdeal := hDeltaIdeal)
    ∧ quiescent_DeltaIdeal_pre_delta_inputs (hDeltaIdeal := hDeltaIdeal) (hPre_delta_inputs := hPre_delta_inputs)
    ∧ quiescent_DeltaRefIdeal (hDeltaRefIdeal := hDeltaRefIdeal)
    ∧ quiescent_DeltaRefIdeal_pre_delta_inputs (hDeltaRefIdeal := hDeltaRefIdeal) (hPre_delta_inputs := hPre_delta_inputs)
    ∧ preserves_Proj_ProjIdeal
    ∧ algebraic_ProjIdeal_ProjRefIdeal_pre_proj_inputs (hProjIdeal := hProjIdeal) (hProjRefIdeal := hProjRefIdeal) (hPre_proj_inputs := hPre_proj_inputs)
    ∧ preserves_Delta_DeltaIdeal
    ∧ algebraic_DeltaIdeal_DeltaRefIdeal_pre_delta_inputs (hDeltaIdeal := hDeltaIdeal) (hDeltaRefIdeal := hDeltaRefIdeal) (hPre_delta_inputs := hPre_delta_inputs)
-- ==== Pre_delta_inputs.lean ====
abbrev S8x16x2048x64 : Shape := ⟨4, ![8, 16, 2048, 64]⟩
abbrev S8x2048x16 : Shape := ⟨3, ![8, 2048, 16]⟩
abbrev S1024x1024 : Shape := ⟨2, ![1024, 1024]⟩
abbrev S_ : Shape := ⟨0, ![]⟩

class Facts : Prop where
  bcast_S_S8x16x2048x64 : S_.BroadcastsInDim S8x16x2048x64 (![] : Fin 0 → Fin S8x16x2048x64.rank)
  reducesTo_S8x16x2048x64_S_d0_1_2_3 : S8x16x2048x64.ReducesTo [0, 1, 2, 3] S_
  h_S_ : 0 < S_.numel
  bcast_S_S8x2048x16 : S_.BroadcastsInDim S8x2048x16 (![] : Fin 0 → Fin S8x2048x16.rank)
  reducesTo_S8x2048x16_S_d0_1_2 : S8x2048x16.ReducesTo [0, 1, 2] S_
  bcast_S_S1024x1024 : S_.BroadcastsInDim S1024x1024 (![] : Fin 0 → Fin S1024x1024.rank)
  reducesTo_S1024x1024_S_d0_1 : S1024x1024.ReducesTo [0, 1] S_

variable [Facts]

def fn_part2 {F : FTy → Type} [FloatOps F] (main_v29 : IVec S_ 1) (main_v32 : IVec S_ 1) : IVec S_ 1 :=
  let main_v33 : IVec S_ 1 := andi main_v29 main_v32
  main_v33

def fn_part1 {F : FTy → Type} [FloatOps F] (main_arg3 : FVec F S8x2048x16 .f32) (main_arg4 : FVec F S8x2048x16 .f32) (main_arg5 : FVec F S1024x1024 .f32) (main_v14 : IVec S_ 1) (main_v15 : FVec F S8x2048x16 .f32) (main_cst_5 : FVec F S_ .f32) : IVec S_ 1 :=
  let main_v16 : FVec F S8x2048x16 .f32 := broadcastInDim S8x2048x16 ![] bcast_S_S8x2048x16 main_cst_5
  let main_v17 : IVec S8x2048x16 1 := cmpf .olt main_v15 main_v16
  let main_c_6 : IVec S_ 1 := constantI S_ 1 1#1
  let main_v18 : IVec S_ 1 := (fun x v => Host.reduce IntOp.andi x v reducesTo_S8x2048x16_S_d0_1_2 h_S_) main_v17 main_c_6
  let main_v19 : IVec S_ 1 := andi main_v14 main_v18
  let main_v20 : FVec F S8x2048x16 .f32 := Host.absf main_arg4
  let main_cst_7 : FVec F S_ .f32 := constant S_ .f32 0x7F800000#32
  let main_v21 : FVec F S8x2048x16 .f32 := broadcastInDim S8x2048x16 ![] bcast_S_S8x2048x16 main_cst_7
  let main_v22 : IVec S8x2048x16 1 := cmpf .olt main_v20 main_v21
  let main_c_8 : IVec S_ 1 := constantI S_ 1 1#1
  let main_v23 : IVec S_ 1 := (fun x v => Host.reduce IntOp.andi x v reducesTo_S8x2048x16_S_d0_1_2 h_S_) main_v22 main_c_8
  let main_v24 : IVec S_ 1 := andi main_v19 main_v23
  let main_v25 : FVec F S1024x1024 .f32 := Host.absf main_arg5
  let main_cst_9 : FVec F S_ .f32 := constant S_ .f32 0x7F800000#32
  let main_v26 : FVec F S1024x1024 .f32 := broadcastInDim S1024x1024 ![] bcast_S_S1024x1024 main_cst_9
  let main_v27 : IVec S1024x1024 1 := cmpf .olt main_v25 main_v26
  let main_c_10 : IVec S_ 1 := constantI S_ 1 1#1
  let main_v28 : IVec S_ 1 := (fun x v => Host.reduce IntOp.andi x v reducesTo_S1024x1024_S_d0_1 h_S_) main_v27 main_c_10
  let main_v29 : IVec S_ 1 := andi main_v24 main_v28
  let main_cst_11 : FVec F S_ .f32 := constant S_ .f32 0x0DA24260#32
  let main_v30 : FVec F S8x2048x16 .f32 := broadcastInDim S8x2048x16 ![] bcast_S_S8x2048x16 main_cst_11
  let main_v31 : IVec S8x2048x16 1 := cmpf .oge main_arg3 main_v30
  let main_c_12 : IVec S_ 1 := constantI S_ 1 1#1
  let main_v32 : IVec S_ 1 := (fun x v => Host.reduce IntOp.andi x v reducesTo_S8x2048x16_S_d0_1_2 h_S_) main_v31 main_c_12
  fn_part2 (F := F) main_v29 main_v32

def fn {F : FTy → Type} [FloatOps F] (main_arg0 : FVec F S8x16x2048x64 .f32) (main_arg1 : FVec F S8x16x2048x64 .f32) (main_arg2 : FVec F S8x16x2048x64 .f32) (main_arg3 : FVec F S8x2048x16 .f32) (main_arg4 : FVec F S8x2048x16 .f32) (main_arg5 : FVec F S1024x1024 .f32) : IVec S_ 1 :=
  let main_v0 : FVec F S8x16x2048x64 .f32 := Host.absf main_arg0
  let main_cst : FVec F S_ .f32 := constant S_ .f32 0x7F800000#32
  let main_v1 : FVec F S8x16x2048x64 .f32 := broadcastInDim S8x16x2048x64 ![] bcast_S_S8x16x2048x64 main_cst
  let main_v2 : IVec S8x16x2048x64 1 := cmpf .olt main_v0 main_v1
  let main_c : IVec S_ 1 := constantI S_ 1 1#1
  let main_v3 : IVec S_ 1 := (fun x v => Host.reduce IntOp.andi x v reducesTo_S8x16x2048x64_S_d0_1_2_3 h_S_) main_v2 main_c
  let main_c_0 : IVec S_ 1 := constantI S_ 1 1#1
  let main_v4 : IVec S_ 1 := andi main_c_0 main_v3
  let main_v5 : FVec F S8x16x2048x64 .f32 := Host.absf main_arg1
  let main_cst_1 : FVec F S_ .f32 := constant S_ .f32 0x7F800000#32
  let main_v6 : FVec F S8x16x2048x64 .f32 := broadcastInDim S8x16x2048x64 ![] bcast_S_S8x16x2048x64 main_cst_1
  let main_v7 : IVec S8x16x2048x64 1 := cmpf .olt main_v5 main_v6
  let main_c_2 : IVec S_ 1 := constantI S_ 1 1#1
  let main_v8 : IVec S_ 1 := (fun x v => Host.reduce IntOp.andi x v reducesTo_S8x16x2048x64_S_d0_1_2_3 h_S_) main_v7 main_c_2
  let main_v9 : IVec S_ 1 := andi main_v4 main_v8
  let main_v10 : FVec F S8x16x2048x64 .f32 := Host.absf main_arg2
  let main_cst_3 : FVec F S_ .f32 := constant S_ .f32 0x7F800000#32
  let main_v11 : FVec F S8x16x2048x64 .f32 := broadcastInDim S8x16x2048x64 ![] bcast_S_S8x16x2048x64 main_cst_3
  let main_v12 : IVec S8x16x2048x64 1 := cmpf .olt main_v10 main_v11
  let main_c_4 : IVec S_ 1 := constantI S_ 1 1#1
  let main_v13 : IVec S_ 1 := (fun x v => Host.reduce IntOp.andi x v reducesTo_S8x16x2048x64_S_d0_1_2_3 h_S_) main_v12 main_c_4
  let main_v14 : IVec S_ 1 := andi main_v9 main_v13
  let main_v15 : FVec F S8x2048x16 .f32 := Host.absf main_arg3
  let main_cst_5 : FVec F S_ .f32 := constant S_ .f32 0x7F800000#32
  fn_part1 (F := F) main_arg3 main_arg4 main_arg5 main_v14 main_v15 main_cst_5
-- ==== Pre_proj_inputs.lean ====
abbrev S8x2048x1024 : Shape := ⟨3, ![8, 2048, 1024]⟩
abbrev S1024x1024 : Shape := ⟨2, ![1024, 1024]⟩
abbrev S1024x1x4 : Shape := ⟨3, ![1024, 1, 4]⟩
abbrev S1024 : Shape := ⟨1, ![1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024x1x4 : S_.BroadcastsInDim S1024x1x4 (![] : Fin 0 → Fin S1024x1x4.rank)
  reducesTo_S1024x1x4_S_d0_1_2 : S1024x1x4.ReducesTo [0, 1, 2] S_
  bcast_S_S1024 : S_.BroadcastsInDim S1024 (![] : Fin 0 → Fin S1024.rank)
  reducesTo_S1024_S_d0 : S1024.ReducesTo [0] S_

variable [Facts]

def fn_part3 {F : FTy → Type} [FloatOps F] (main_v49 : IVec S_ 1) (main_v50 : FVec F S1024 .f32) : IVec S_ 1 :=
  let main_cst_19 : FVec F S_ .f32 := constant S_ .f32 0x7F800000#32
  let main_v51 : FVec F S1024 .f32 := broadcastInDim S1024 ![] bcast_S_S1024 main_cst_19
  let main_v52 : IVec S1024 1 := cmpf .olt main_v50 main_v51
  let main_c_20 : IVec S_ 1 := constantI S_ 1 1#1
  let main_v53 : IVec S_ 1 := (fun x v => Host.reduce IntOp.andi x v reducesTo_S1024_S_d0 h_S_) main_v52 main_c_20
  let main_v54 : IVec S_ 1 := andi main_v49 main_v53
  main_v54

def fn_part2 {F : FTy → Type} [FloatOps F] (main_arg7 : FVec F S1024x1024 .f32) (main_arg8 : FVec F S1024 .f32) (main_arg9 : FVec F S1024x1024 .f32) (main_arg10 : FVec F S1024 .f32) (main_v29 : IVec S_ 1) (main_v32 : IVec S1024x1024 1) (main_c_12 : IVec S_ 1) : IVec S_ 1 :=
  let main_v33 : IVec S_ 1 := (fun x v => Host.reduce IntOp.andi x v reducesTo_S1024x1024_S_d0_1 h_S_) main_v32 main_c_12
  let main_v34 : IVec S_ 1 := andi main_v29 main_v33
  let main_v35 : FVec F S1024x1024 .f32 := Host.absf main_arg7
  let main_cst_13 : FVec F S_ .f32 := constant S_ .f32 0x7F800000#32
  let main_v36 : FVec F S1024x1024 .f32 := broadcastInDim S1024x1024 ![] bcast_S_S1024x1024 main_cst_13
  let main_v37 : IVec S1024x1024 1 := cmpf .olt main_v35 main_v36
  let main_c_14 : IVec S_ 1 := constantI S_ 1 1#1
  let main_v38 : IVec S_ 1 := (fun x v => Host.reduce IntOp.andi x v reducesTo_S1024x1024_S_d0_1 h_S_) main_v37 main_c_14
  let main_v39 : IVec S_ 1 := andi main_v34 main_v38
  let main_v40 : FVec F S1024 .f32 := Host.absf main_arg8
  let main_cst_15 : FVec F S_ .f32 := constant S_ .f32 0x7F800000#32
  let main_v41 : FVec F S1024 .f32 := broadcastInDim S1024 ![] bcast_S_S1024 main_cst_15
  let main_v42 : IVec S1024 1 := cmpf .olt main_v40 main_v41
  let main_c_16 : IVec S_ 1 := constantI S_ 1 1#1
  let main_v43 : IVec S_ 1 := (fun x v => Host.reduce IntOp.andi x v reducesTo_S1024_S_d0 h_S_) main_v42 main_c_16
  let main_v44 : IVec S_ 1 := andi main_v39 main_v43
  let main_v45 : FVec F S1024x1024 .f32 := Host.absf main_arg9
  let main_cst_17 : FVec F S_ .f32 := constant S_ .f32 0x7F800000#32
  let main_v46 : FVec F S1024x1024 .f32 := broadcastInDim S1024x1024 ![] bcast_S_S1024x1024 main_cst_17
  let main_v47 : IVec S1024x1024 1 := cmpf .olt main_v45 main_v46
  let main_c_18 : IVec S_ 1 := constantI S_ 1 1#1
  let main_v48 : IVec S_ 1 := (fun x v => Host.reduce IntOp.andi x v reducesTo_S1024x1024_S_d0_1 h_S_) main_v47 main_c_18
  let main_v49 : IVec S_ 1 := andi main_v44 main_v48
  let main_v50 : FVec F S1024 .f32 := Host.absf main_arg10
  fn_part3 (F := F) main_v49 main_v50

def fn_part1 {F : FTy → Type} [FloatOps F] (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024x1024 .f32) (main_arg10 : FVec F S1024 .f32) (main_v14 : IVec S_ 1) (main_v15 : FVec F S1024 .f32) (main_cst_5 : FVec F S_ .f32) : IVec S_ 1 :=
  let main_v16 : FVec F S1024 .f32 := broadcastInDim S1024 ![] bcast_S_S1024 main_cst_5
  let main_v17 : IVec S1024 1 := cmpf .olt main_v15 main_v16
  let main_c_6 : IVec S_ 1 := constantI S_ 1 1#1
  let main_v18 : IVec S_ 1 := (fun x v => Host.reduce IntOp.andi x v reducesTo_S1024_S_d0 h_S_) main_v17 main_c_6
  let main_v19 : IVec S_ 1 := andi main_v14 main_v18
  let main_v20 : FVec F S1024x1024 .f32 := Host.absf main_arg4
  let main_cst_7 : FVec F S_ .f32 := constant S_ .f32 0x7F800000#32
  let main_v21 : FVec F S1024x1024 .f32 := broadcastInDim S1024x1024 ![] bcast_S_S1024x1024 main_cst_7
  let main_v22 : IVec S1024x1024 1 := cmpf .olt main_v20 main_v21
  let main_c_8 : IVec S_ 1 := constantI S_ 1 1#1
  let main_v23 : IVec S_ 1 := (fun x v => Host.reduce IntOp.andi x v reducesTo_S1024x1024_S_d0_1 h_S_) main_v22 main_c_8
  let main_v24 : IVec S_ 1 := andi main_v19 main_v23
  let main_v25 : FVec F S1024x1024 .f32 := Host.absf main_arg5
  let main_cst_9 : FVec F S_ .f32 := constant S_ .f32 0x7F800000#32
  let main_v26 : FVec F S1024x1024 .f32 := broadcastInDim S1024x1024 ![] bcast_S_S1024x1024 main_cst_9
  let main_v27 : IVec S1024x1024 1 := cmpf .olt main_v25 main_v26
  let main_c_10 : IVec S_ 1 := constantI S_ 1 1#1
  let main_v28 : IVec S_ 1 := (fun x v => Host.reduce IntOp.andi x v reducesTo_S1024x1024_S_d0_1 h_S_) main_v27 main_c_10
  let main_v29 : IVec S_ 1 := andi main_v24 main_v28
  let main_v30 : FVec F S1024x1024 .f32 := Host.absf main_arg6
  let main_cst_11 : FVec F S_ .f32 := constant S_ .f32 0x7F800000#32
  let main_v31 : FVec F S1024x1024 .f32 := broadcastInDim S1024x1024 ![] bcast_S_S1024x1024 main_cst_11
  let main_v32 : IVec S1024x1024 1 := cmpf .olt main_v30 main_v31
  let main_c_12 : IVec S_ 1 := constantI S_ 1 1#1
  fn_part2 (F := F) main_arg7 main_arg8 main_arg9 main_arg10 main_v29 main_v32 main_c_12

def fn {F : FTy → Type} [FloatOps F] (main_arg0 : FVec F S8x2048x1024 .f32) (main_arg1 : FVec F S1024x1024 .f32) (main_arg2 : FVec F S1024x1x4 .f32) (main_arg3 : FVec F S1024 .f32) (main_arg4 : FVec F S1024x1024 .f32) (main_arg5 : FVec F S1024x1024 .f32) (main_arg6 : FVec F S1024x1024 .f32) (main_arg7 : FVec F S1024x1024 .f32) (main_arg8 : FVec F S1024 .f32) (main_arg9 : FVec F S1024x1024 .f32) (main_arg10 : FVec F S1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_c_0 : IVec S_ 1 := constantI S_ 1 1#1
  let main_v4 : IVec S_ 1 := andi main_c_0 main_v3
  let main_v5 : FVec F S1024x1024 .f32 := Host.absf main_arg1
  let main_cst_1 : FVec F S_ .f32 := constant S_ .f32 0x7F800000#32
  let main_v6 : FVec F S1024x1024 .f32 := broadcastInDim S1024x1024 ![] bcast_S_S1024x1024 main_cst_1
  let main_v7 : IVec S1024x1024 1 := cmpf .olt main_v5 main_v6
  let main_c_2 : IVec S_ 1 := constantI S_ 1 1#1
  let main_v8 : IVec S_ 1 := (fun x v => Host.reduce IntOp.andi x v reducesTo_S1024x1024_S_d0_1 h_S_) main_v7 main_c_2
  let main_v9 : IVec S_ 1 := andi main_v4 main_v8
  let main_v10 : FVec F S1024x1x4 .f32 := Host.absf main_arg2
  let main_cst_3 : FVec F S_ .f32 := constant S_ .f32 0x7F800000#32
  let main_v11 : FVec F S1024x1x4 .f32 := broadcastInDim S1024x1x4 ![] bcast_S_S1024x1x4 main_cst_3
  let main_v12 : IVec S1024x1x4 1 := cmpf .olt main_v10 main_v11
  let main_c_4 : IVec S_ 1 := constantI S_ 1 1#1
  let main_v13 : IVec S_ 1 := (fun x v => Host.reduce IntOp.andi x v reducesTo_S1024x1x4_S_d0_1_2 h_S_) main_v12 main_c_4
  let main_v14 : IVec S_ 1 := andi main_v9 main_v13
  let main_v15 : FVec F S1024 .f32 := Host.absf main_arg3
  let main_cst_5 : FVec F S_ .f32 := constant S_ .f32 0x7F800000#32
  fn_part1 (F := F) main_arg4 main_arg5 main_arg6 main_arg7 main_arg8 main_arg9 main_arg10 main_v14 main_v15 main_cst_5
-- ==== Proj.lean ====
abbrev S8x2048x1024 : Shape := ⟨3, ![8, 2048, 1024]⟩
abbrev S1024x1024 : Shape := ⟨2, ![1024, 1024]⟩
abbrev S1024x1x4 : Shape := ⟨3, ![1024, 1, 4]⟩
abbrev S1024 : Shape := ⟨1, ![1024]⟩
abbrev S1024x4 : Shape := ⟨2, ![1024, 4]⟩
abbrev S4x1024 : Shape := ⟨2, ![4, 1024]⟩
abbrev S1x1024 : Shape := ⟨2, ![1, 1024]⟩
abbrev S8x256x8x1024 : Shape := ⟨4, ![8, 256, 8, 1024]⟩
abbrev S8x16x2048x64 : Shape := ⟨4, ![8, 16, 2048, 64]⟩
abbrev S8x2048x16 : Shape := ⟨3, ![8, 2048, 16]⟩
abbrev S1x256x1024 : Shape := ⟨3, ![1, 256, 1024]⟩
abbrev S1x1x8x1024 : Shape := ⟨4, ![1, 1, 8, 1024]⟩
abbrev S1x16x256x64 : Shape := ⟨4, ![1, 16, 256, 64]⟩
abbrev S1x256x16 : Shape := ⟨3, ![1, 256, 16]⟩
abbrev S256x1024 : Shape := ⟨2, ![256, 1024]⟩
abbrev S8x1024 : Shape := ⟨2, ![8, 1024]⟩
abbrev S264x1024 : Shape := ⟨2, ![264, 1024]⟩
abbrev S1024x16 : Shape := ⟨2, ![1024, 16]⟩
abbrev S256x16 : Shape := ⟨2, ![256, 16]⟩
abbrev S256x64 : Shape := ⟨2, ![256, 64]⟩
abbrev S1x1x256x64 : Shape := ⟨4, ![1, 1, 256, 64]⟩

abbrev nBuf : Space → Nat
  | .hbm => 52
  | .vmem => 30
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1x4, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024x1024, .bf16⟩
  | .hbm, ⟨13, _⟩ => ⟨S1024x1024, .f32⟩
  | .hbm, ⟨14, _⟩ => ⟨S1024x1024, .f32⟩
  | .hbm, ⟨15, _⟩ => ⟨S1024x1024, .bf16⟩
  | .hbm, ⟨16, _⟩ => ⟨S1024x4, .f32⟩
  | .hbm, ⟨17, _⟩ => ⟨S4x1024, .f32⟩
  | .hbm, ⟨18, _⟩ => ⟨S1x1024, .f32⟩
  | .hbm, ⟨19, _⟩ => ⟨S1024x1024, .f32⟩
  | .hbm, ⟨20, _⟩ => ⟨S1024x1024, .bf16⟩
  | .hbm, ⟨21, _⟩ => ⟨S1024x1024, .f32⟩
  | .hbm, ⟨22, _⟩ => ⟨S1024x1024, .f32⟩
  | .hbm, ⟨23, _⟩ => ⟨S1024x1024, .bf16⟩
  | .hbm, ⟨24, _⟩ => ⟨S1024x1024, .f32⟩
  | .hbm, ⟨25, _⟩ => ⟨S1024x1024, .bf16⟩
  | .hbm, ⟨26, _⟩ => ⟨S1024x1024, .f32⟩
  | .hbm, ⟨27, _⟩ => ⟨S1024x1024, .f32⟩
  | .hbm, ⟨28, _⟩ => ⟨S1024x1024, .bf16⟩
  | .hbm, ⟨29, _⟩ => ⟨S1024x1024, .f32⟩
  | .hbm, ⟨30, _⟩ => ⟨S1024x1024, .bf16⟩
  | .hbm, ⟨31, _⟩ => ⟨S1024x1024, .f32⟩
  | .hbm, ⟨32, _⟩ => ⟨S1024x1024, .f32⟩
  | .hbm, ⟨33, _⟩ => ⟨S1024x1024, .bf16⟩
  | .hbm, ⟨34, _⟩ => ⟨S1024x1024, .f32⟩
  | .hbm, ⟨35, _⟩ => ⟨S1024x1024, .bf16⟩
  | .hbm, ⟨36, _⟩ => ⟨S1024x1024, .f32⟩
  | .hbm, ⟨37, _⟩ => ⟨S1024x1024, .f32⟩
  | .hbm, ⟨38, _⟩ => ⟨S1024x1024, .bf16⟩
  | .hbm, ⟨39, _⟩ => ⟨S1024x1024, .f32⟩
  | .hbm, ⟨40, _⟩ => ⟨S1024x1024, .bf16⟩
  | .hbm, ⟨41, _⟩ => ⟨S1024x1024, .f32⟩
  | .hbm, ⟨42, _⟩ => ⟨S1024x1024, .f32⟩
  | .hbm, ⟨43, _⟩ => ⟨S1024x1024, .bf16⟩
  | .hbm, ⟨44, _⟩ => ⟨S1x1024, .f32⟩
  | .hbm, ⟨45, _⟩ => ⟨S1x1024, .f32⟩
  | .hbm, ⟨46, _⟩ => ⟨S8x256x8x1024, .f32⟩
  | .hbm, ⟨47, _⟩ => ⟨S8x16x2048x64, .f32⟩
  | .hbm, ⟨48, _⟩ => ⟨S8x16x2048x64, .f32⟩
  | .hbm, ⟨49, _⟩ => ⟨S8x16x2048x64, .f32⟩
  | .hbm, ⟨50, _⟩ => ⟨S8x2048x16, .f32⟩
  | .hbm, ⟨51, _⟩ => ⟨S8x2048x16, .f32⟩
  | .local _ .vmem, ⟨0, _⟩ => ⟨S1x256x1024, .f32⟩
  | .local _ .vmem, ⟨1, _⟩ => ⟨S1x256x1024, .f32⟩
  | .local _ .vmem, ⟨2, _⟩ => ⟨S1x1x8x1024, .f32⟩
  | .local _ .vmem, ⟨3, _⟩ => ⟨S1x1x8x1024, .f32⟩
  | .local _ .vmem, ⟨4, _⟩ => ⟨S1024x1024, .bf16⟩
  | .local _ .vmem, ⟨5, _⟩ => ⟨S1024x1024, .bf16⟩
  | .local _ .vmem, ⟨6, _⟩ => ⟨S4x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S1x1024, .f32⟩
  | .local _ .vmem, ⟨17, _⟩ => ⟨S1024x1024, .bf16⟩
  | .local _ .vmem, ⟨18, _⟩ => ⟨S1024x1024, .bf16⟩
  | .local _ .vmem, ⟨19, _⟩ => ⟨S1x1024, .f32⟩
  | .local _ .vmem, ⟨20, _⟩ => ⟨S1x16x256x64, .f32⟩
  | .local _ .vmem, ⟨21, _⟩ => ⟨S1x16x256x64, .f32⟩
  | .local _ .vmem, ⟨22, _⟩ => ⟨S1x16x256x64, .f32⟩
  | .local _ .vmem, ⟨23, _⟩ => ⟨S1x16x256x64, .f32⟩
  | .local _ .vmem, ⟨24, _⟩ => ⟨S1x16x256x64, .f32⟩
  | .local _ .vmem, ⟨25, _⟩ => ⟨S1x16x256x64, .f32⟩
  | .local _ .vmem, ⟨26, _⟩ => ⟨S1x256x16, .f32⟩
  | .local _ .vmem, ⟨27, _⟩ => ⟨S1x256x16, .f32⟩
  | .local _ .vmem, ⟨28, _⟩ => ⟨S1x256x16, .f32⟩
  | .local _ .vmem, ⟨29, _⟩ => ⟨S1x256x16, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36_0 : Ref sig .tc := ⟨.hbm, 47, rfl⟩
abbrev main_v36_1 : Ref sig .tc := ⟨.hbm, 48, rfl⟩
abbrev main_v36_2 : Ref sig .tc := ⟨.hbm, 49, rfl⟩
abbrev main_v36_3 : Ref sig .tc := ⟨.hbm, 50, rfl⟩
abbrev main_v36_4 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg18_1 : Ref sig .tc := ⟨.vmem, 21, rfl⟩
abbrev cc0_stg19_0 : Ref sig .tc := ⟨.vmem, 22, rfl⟩
abbrev cc0_stg19_1 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem18_1 : DmaSem sig := 21
abbrev cc0_sem19_0 : DmaSem sig := 22
abbrev cc0_sem19_1 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c32_i32 : BitVec 32 := 32#32
  let v2 : BitVec 32 := Scalar.muli arg2 c32_i32
  let c1_i32 : BitVec 32 := 1#32
  let v3 : BitVec 32 := Scalar.subi v2 c1_i32
  let c0_i32 : BitVec 32 := 0#32
  let v4 : BitVec 32 := Scalar.maxsi v3 c0_i32
  let c0_i32_0 : BitVec 32 := 0#32
  let c0_i32_1 : BitVec 32 := 0#32
  let c0_i32_2 : BitVec 32 := 0#32
  ![v1.toNat, v4.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_19 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_20 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_21 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_22 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S4x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false, false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false, false]

abbrev stage0_16 : Fin 1 → Memref sig .tc .vmem S1024x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false, false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false, false]

abbrev stage0_18 : Fin 2 → Memref sig .tc .vmem S1x16x256x64 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true, true]

abbrev stage0_19 : Fin 2 → Memref sig .tc .vmem S1x16x256x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true, true]

abbrev stage0_20 : Fin 2 → Memref sig .tc .vmem S1x16x256x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true, true]

abbrev stage0_21 : Fin 2 → Memref sig .tc .vmem S1x256x16 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true, true]

abbrev stage0_22 : Fin 2 → Memref sig .tc .vmem S1x256x16 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true, true]
-- ==== ProjRefIdeal.lean ====
abbrev S8x2048x1024 : Shape := ⟨3, ![8, 2048, 1024]⟩
abbrev S1024x1024 : Shape := ⟨2, ![1024, 1024]⟩
abbrev S1024x1x4 : Shape := ⟨3, ![1024, 1, 4]⟩
abbrev S1024 : Shape := ⟨1, ![1024]⟩
abbrev S_ : Shape := ⟨0, ![]⟩
abbrev S8x2051x1024 : Shape := ⟨3, ![8, 2051, 1024]⟩
abbrev S1024x1x1 : Shape := ⟨3, ![1024, 1, 1]⟩
abbrev S1x1x1024 : Shape := ⟨3, ![1, 1, 1024]⟩
abbrev S8x2048x16x64 : Shape := ⟨4, ![8, 2048, 16, 64]⟩
abbrev S8x2048x16 : Shape := ⟨3, ![8, 2048, 16]⟩
abbrev S8x2048x16x1 : Shape := ⟨4, ![8, 2048, 16, 1]⟩
abbrev S8x16x2048x64 : Shape := ⟨4, ![8, 16, 2048, 64]⟩

abbrev nBuf : Space → Nat
  | .hbm => 128
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x1024, .f32⟩
  | .hbm, ⟨2, _⟩ => ⟨S1024x1x4, .f32⟩
  | .hbm, ⟨3, _⟩ => ⟨S1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S8x2048x1024, .f32⟩
  | .hbm, ⟨13, _⟩ => ⟨S_, .i32⟩
  | .hbm, ⟨14, _⟩ => ⟨S_, .f32⟩
  | .hbm, ⟨15, _⟩ => ⟨S8x2051x1024, .f32⟩
  | .hbm, ⟨16, _⟩ => ⟨S8x2048x1024, .f32⟩
  | .hbm, ⟨17, _⟩ => ⟨S1024x1x1, .f32⟩
  | .hbm, ⟨18, _⟩ => ⟨S1024, .f32⟩
  | .hbm, ⟨19, _⟩ => ⟨S1x1x1024, .f32⟩
  | .hbm, ⟨20, _⟩ => ⟨S8x2048x1024, .f32⟩
  | .hbm, ⟨21, _⟩ => ⟨S8x2048x1024, .f32⟩
  | .hbm, ⟨22, _⟩ => ⟨S_, .f32⟩
  | .hbm, ⟨23, _⟩ => ⟨S8x2048x1024, .f32⟩
  | .hbm, ⟨24, _⟩ => ⟨S8x2048x1024, .f32⟩
  | .hbm, ⟨25, _⟩ => ⟨S8x2048x1024, .f32⟩
  | .hbm, ⟨26, _⟩ => ⟨S1024x1x1, .f32⟩
  | .hbm, ⟨27, _⟩ => ⟨S1024, .f32⟩
  | .hbm, ⟨28, _⟩ => ⟨S1x1x1024, .f32⟩
  | .hbm, ⟨29, _⟩ => ⟨S8x2048x1024, .f32⟩
  | .hbm, ⟨30, _⟩ => ⟨S8x2048x1024, .f32⟩
  | .hbm, ⟨31, _⟩ => ⟨S8x2048x1024, .f32⟩
  | .hbm, ⟨32, _⟩ => ⟨S8x2048x1024, .f32⟩
  | .hbm, ⟨33, _⟩ => ⟨S1024x1x1, .f32⟩
  | .hbm, ⟨34, _⟩ => ⟨S1024, .f32⟩
  | .hbm, ⟨35, _⟩ => ⟨S1x1x1024, .f32⟩
  | .hbm, ⟨36, _⟩ => ⟨S8x2048x1024, .f32⟩
  | .hbm, ⟨37, _⟩ => ⟨S8x2048x1024, .f32⟩
  | .hbm, ⟨38, _⟩ => ⟨S8x2048x1024, .f32⟩
  | .hbm, ⟨39, _⟩ => ⟨S8x2048x1024, .f32⟩
  | .hbm, ⟨40, _⟩ => ⟨S1024x1x1, .f32⟩
  | .hbm, ⟨41, _⟩ => ⟨S1024, .f32⟩
  | .hbm, ⟨42, _⟩ => ⟨S1x1x1024, .f32⟩
  | .hbm, ⟨43, _⟩ => ⟨S8x2048x1024, .f32⟩
  | .hbm, ⟨44, _⟩ => ⟨S8x2048x1024, .f32⟩
  | .hbm, ⟨45, _⟩ => ⟨S8x2048x1024, .f32⟩
  | .hbm, ⟨46, _⟩ => ⟨S1x1x1024, .f32⟩
  | .hbm, ⟨47, _⟩ => ⟨S8x2048x1024, .f32⟩
  | .hbm, ⟨48, _⟩ => ⟨S8x2048x1024, .f32⟩
  | .hbm, ⟨49, _⟩ => ⟨S8x2048x1024, .f32⟩
  | .hbm, ⟨50, _⟩ => ⟨S8x2048x1024, .f32⟩
  | .hbm, ⟨51, _⟩ => ⟨S_, .f32⟩
  | .hbm, ⟨52, _⟩ => ⟨S8x2048x1024, .f32⟩
  | .hbm, ⟨53, _⟩ => ⟨S8x2048x1024, .f32⟩
  | .hbm, ⟨54, _⟩ => ⟨S_, .f32⟩
  | .hbm, ⟨55, _⟩ => ⟨S8x2048x1024, .f32⟩
  | .hbm, ⟨56, _⟩ => ⟨S8x2048x1024, .f32⟩
  | .hbm, ⟨57, _⟩ => ⟨S8x2048x1024, .f32⟩
  | .hbm, ⟨58, _⟩ => ⟨S1024x1024, .f32⟩
  | .hbm, ⟨59, _⟩ => ⟨S8x2048x1024, .f32⟩
  | .hbm, ⟨60, _⟩ => ⟨S8x2048x16x64, .f32⟩
  | .hbm, ⟨61, _⟩ => ⟨S8x2048x16x64, .f32⟩
  | .hbm, ⟨62, _⟩ => ⟨S_, .f32⟩
  | .hbm, ⟨63, _⟩ => ⟨S8x2048x16, .f32⟩
  | .hbm, ⟨64, _⟩ => ⟨S8x2048x16x1, .f32⟩
  | .hbm, ⟨65, _⟩ => ⟨S8x2048x16x1, .f32⟩
  | .hbm, ⟨66, _⟩ => ⟨S_, .f32⟩
  | .hbm, ⟨67, _⟩ => ⟨S8x2048x16x1, .f32⟩
  | .hbm, ⟨68, _⟩ => ⟨S8x2048x16x1, .f32⟩
  | .hbm, ⟨69, _⟩ => ⟨S8x2048x16x64, .f32⟩
  | .hbm, ⟨70, _⟩ => ⟨S8x2048x16x64, .f32⟩
  | .hbm, ⟨71, _⟩ => ⟨S1024x1024, .f32⟩
  | .hbm, ⟨72, _⟩ => ⟨S8x2048x1024, .f32⟩
  | .hbm, ⟨73, _⟩ => ⟨S8x2048x16x64, .f32⟩
  | .hbm, ⟨74, _⟩ => ⟨S8x2048x16x64, .f32⟩
  | .hbm, ⟨75, _⟩ => ⟨S_, .f32⟩
  | .hbm, ⟨76, _⟩ => ⟨S8x2048x16, .f32⟩
  | .hbm, ⟨77, _⟩ => ⟨S8x2048x16x1, .f32⟩
  | .hbm, ⟨78, _⟩ => ⟨S8x2048x16x1, .f32⟩
  | .hbm, ⟨79, _⟩ => ⟨S_, .f32⟩
  | .hbm, ⟨80, _⟩ => ⟨S8x2048x16x1, .f32⟩
  | .hbm, ⟨81, _⟩ => ⟨S8x2048x16x1, .f32⟩
  | .hbm, ⟨82, _⟩ => ⟨S8x2048x16x64, .f32⟩
  | .hbm, ⟨83, _⟩ => ⟨S8x2048x16x64, .f32⟩
  | .hbm, ⟨84, _⟩ => ⟨S1024x1024, .f32⟩
  | .hbm, ⟨85, _⟩ => ⟨S8x2048x1024, .f32⟩
  | .hbm, ⟨86, _⟩ => ⟨S8x2048x16x64, .f32⟩
  | .hbm, ⟨87, _⟩ => ⟨S1024x1024, .f32⟩
  | .hbm, ⟨88, _⟩ => ⟨S8x2048x1024, .f32⟩
  | .hbm, ⟨89, _⟩ => ⟨S1x1x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S_, .f32⟩
  | .hbm, ⟨95, _⟩ => ⟨S8x2048x1024, .f32⟩
  | .hbm, ⟨96, _⟩ => ⟨S8x2048x1024, .f32⟩
  | .hbm, ⟨97, _⟩ => ⟨S_, .f32⟩
  | .hbm, ⟨98, _⟩ => ⟨S8x2048x1024, .f32⟩
  | .hbm, ⟨99, _⟩ => ⟨S8x2048x1024, .f32⟩
  | .hbm, ⟨100, _⟩ => ⟨S8x2048x16x64, .f32⟩
  | .hbm, ⟨101, _⟩ => ⟨S_, .f32⟩
  | .hbm, ⟨102, _⟩ => ⟨S8x2048x16, .f32⟩
  | .hbm, ⟨103, _⟩ => ⟨S_, .f32⟩
  | .hbm, ⟨104, _⟩ => ⟨S8x2048x16, .f32⟩
  | .hbm, ⟨105, _⟩ => ⟨S8x2048x16, .f32⟩
  | .hbm, ⟨106, _⟩ => ⟨S1024x1024, .f32⟩
  | .hbm, ⟨107, _⟩ => ⟨S8x2048x1024, .f32⟩
  | .hbm, ⟨108, _⟩ => ⟨S1x1x1024, .f32⟩
  | .hbm, ⟨109, _⟩ => ⟨S8x2048x1024, .f32⟩
  | .hbm, ⟨110, _⟩ => ⟨S8x2048x1024, .f32⟩
  | .hbm, ⟨111, _⟩ => ⟨S8x2048x1024, .f32⟩
  | .hbm, ⟨112, _⟩ => ⟨S8x2048x1024, .f32⟩
  | .hbm, ⟨113, _⟩ => ⟨S_, .f32⟩
  | .hbm, ⟨114, _⟩ => ⟨S8x2048x1024, .f32⟩
  | .hbm, ⟨115, _⟩ => ⟨S8x2048x1024, .f32⟩
  | .hbm, ⟨116, _⟩ => ⟨S_, .f32⟩
  | .hbm, ⟨117, _⟩ => ⟨S8x2048x1024, .f32⟩
  | .hbm, ⟨118, _⟩ => ⟨S8x2048x1024, .f32⟩
  | .hbm, ⟨119, _⟩ => ⟨S8x2048x16x64, .f32⟩
  | .hbm, ⟨120, _⟩ => ⟨S_, .f32⟩
  | .hbm, ⟨121, _⟩ => ⟨S8x2048x16, .f32⟩
  | .hbm, ⟨122, _⟩ => ⟨S_, .f32⟩
  | .hbm, ⟨123, _⟩ => ⟨S8x2048x16, .f32⟩
  | .hbm, ⟨124, _⟩ => ⟨S8x2048x16, .f32⟩
  | .hbm, ⟨125, _⟩ => ⟨S8x16x2048x64, .f32⟩
  | .hbm, ⟨126, _⟩ => ⟨S8x16x2048x64, .f32⟩
  | .hbm, ⟨127, _⟩ => ⟨S8x16x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call1_v0 : Ref sig .tc := ⟨.hbm, 49, rfl⟩
abbrev main_call1_v1 : Ref sig .tc := ⟨.hbm, 50, rfl⟩
abbrev main_call1_cst : Ref sig .tc := ⟨.hbm, 51, rfl⟩
abbrev main_call1_v2 : Ref sig .tc := ⟨.hbm, 52, rfl⟩
abbrev main_call1_v3 : Ref sig .tc := ⟨.hbm, 53, rfl⟩
abbrev main_call1_cst_0 : Ref sig .tc := ⟨.hbm, 54, rfl⟩
abbrev main_call1_v4 : Ref sig .tc := ⟨.hbm, 55, rfl⟩
abbrev main_call1_v5 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_0 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_1 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_2 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_3 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_4 : Ref sig .tc := ⟨.hbm, 94, rfl⟩
abbrev main_v68 : Ref sig .tc := ⟨.hbm, 95, rfl⟩
abbrev main_v69 : Ref sig .tc := ⟨.hbm, 96, rfl⟩
abbrev main_cst_5 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_6 : Ref sig .tc := ⟨.hbm, 101, rfl⟩
abbrev main_v73 : Ref sig .tc := ⟨.hbm, 102, rfl⟩
abbrev main_cst_7 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_8 : Ref sig .tc := ⟨.hbm, 113, rfl⟩
abbrev main_v83 : Ref sig .tc := ⟨.hbm, 114, rfl⟩
abbrev main_v84 : Ref sig .tc := ⟨.hbm, 115, rfl⟩
abbrev main_cst_9 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_10 : Ref sig .tc := ⟨.hbm, 120, rfl⟩
abbrev main_v88 : Ref sig .tc := ⟨.hbm, 121, rfl⟩
abbrev main_cst_11 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩

abbrev nD : Nat := 1
abbrev τ : Topo := Topo.v7x

variable {F : FTy → Type} [FloatOps F]
-- ==== Delta.lean ====
abbrev S8x16x2048x64 : Shape := ⟨4, ![8, 16, 2048, 64]⟩
abbrev S8x2048x16 : Shape := ⟨3, ![8, 2048, 16]⟩
abbrev S1024x1024 : Shape := ⟨2, ![1024, 1024]⟩
abbrev S8x2048x1024 : Shape := ⟨3, ![8, 2048, 1024]⟩
abbrev S8x16x64x64 : Shape := ⟨4, ![8, 16, 64, 64]⟩
abbrev S1x16x64x64 : Shape := ⟨4, ![1, 16, 64, 64]⟩
abbrev S1x64x16 : Shape := ⟨3, ![1, 64, 16]⟩
abbrev S1x64x1024 : Shape := ⟨3, ![1, 64, 1024]⟩
abbrev S16x64x64 : Shape := ⟨3, ![16, 64, 64]⟩
abbrev S64x16 : Shape := ⟨2, ![64, 16]⟩
abbrev S64x64 : Shape := ⟨2, ![64, 64]⟩
abbrev S16x64 : Shape := ⟨2, ![16, 64]⟩
abbrev S1x1x64x64 : Shape := ⟨4, ![1, 1, 64, 64]⟩
abbrev S64x1 : Shape := ⟨2, ![64, 1]⟩
abbrev S1x64 : Shape := ⟨2, ![1, 64]⟩
abbrev S1x64x64 : Shape := ⟨3, ![1, 64, 64]⟩
abbrev S1x1 : Shape := ⟨2, ![1, 1]⟩
abbrev S64x1024 : Shape := ⟨2, ![64, 1024]⟩

abbrev nBuf : Space → Nat
  | .hbm => 13
  | .vmem => 17
  | .smem => 0
  | _ => 0

abbrev bufTy : (tb : Table) → Fin (tcTables nBuf tb) → BufTy
  | .hbm, ⟨0, _⟩ => ⟨S8x16x2048x64, .f32⟩
  | .hbm, ⟨1, _⟩ => ⟨S8x16x2048x64, .f32⟩
  | .hbm, ⟨2, _⟩ => ⟨S8x16x2048x64, .f32⟩
  | .hbm, ⟨3, _⟩ => ⟨S8x2048x16, .f32⟩
  | .hbm, ⟨4, _⟩ => ⟨S8x2048x16, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .f32⟩
  | .hbm, ⟨10, _⟩ => ⟨S1024x1024, .bf16⟩
  | .hbm, ⟨11, _⟩ => ⟨S8x2048x1024, .f32⟩
  | .hbm, ⟨12, _⟩ => ⟨S8x16x64x64, .f32⟩
  | .local _ .vmem, ⟨0, _⟩ => ⟨S1x16x64x64, .f32⟩
  | .local _ .vmem, ⟨1, _⟩ => ⟨S1x16x64x64, .f32⟩
  | .local _ .vmem, ⟨2, _⟩ => ⟨S1x16x64x64, .f32⟩
  | .local _ .vmem, ⟨3, _⟩ => ⟨S1x16x64x64, .f32⟩
  | .local _ .vmem, ⟨4, _⟩ => ⟨S1x16x64x64, .f32⟩
  | .local _ .vmem, ⟨5, _⟩ => ⟨S1x16x64x64, .f32⟩
  | .local _ .vmem, ⟨6, _⟩ => ⟨S1x64x16, .f32⟩
  | .local _ .vmem, ⟨7, _⟩ => ⟨S1x64x16, .f32⟩
  | .local _ .vmem, ⟨8, _⟩ => ⟨S1x64x16, .f32⟩
  | .local _ .vmem, ⟨9, _⟩ => ⟨S1x64x16, .f32⟩
  | .local _ .vmem, ⟨10, _⟩ => ⟨S1024x1024, .bf16⟩
  | .local _ .vmem, ⟨11, _⟩ => ⟨S1024x1024, .bf16⟩
  | .local _ .vmem, ⟨12, _⟩ => ⟨S1x64x1024, .f32⟩
  | .local _ .vmem, ⟨13, _⟩ => ⟨S1x64x1024, .f32⟩
  | .local _ .vmem, ⟨14, _⟩ => ⟨S1x16x64x64, .f32⟩
  | .local _ .vmem, ⟨15, _⟩ => ⟨S1x16x64x64, .f32⟩
  | .local _ .vmem, ⟨16, _⟩ => ⟨S16x64x64, .f32⟩
  | _, _ => ⟨S8x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨3, ![2, 4, 32], ![false, false, false]⟩

def k0_cond2 (i : grid0.Coords) : BitVec 1 :=
  let arg2 : BitVec 32 := BitVec.ofNat 32 (i 2).val
  let c31_i32 : BitVec 32 := 31#32
  let v1162 : BitVec 1 := Scalar.cmpi .eq arg2 c31_i32
  let v1163 : BitVec 32 := Scalar.extui v1162
  let c0_i32_505 : BitVec 32 := 0#32
  let v1164 : BitVec 1 := Scalar.cmpi .ne v1163 c0_i32_505
  v1164

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, arg2.toNat, c0_i32.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

abbrev stage0_0 : Fin 2 → Memref sig .tc .vmem S1x16x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x16x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x16x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x64x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== DeltaRefIdeal.lean ====
abbrev S8x16x2048x64 : Shape := ⟨4, ![8, 16, 2048, 64]⟩
abbrev S8x2048x16 : Shape := ⟨3, ![8, 2048, 16]⟩
abbrev S1024x1024 : Shape := ⟨2, ![1024, 1024]⟩
abbrev S2048x8x16x64 : Shape := ⟨4, ![2048, 8, 16, 64]⟩
abbrev S2048x8x16 : Shape := ⟨3, ![2048, 8, 16]⟩
abbrev S_ : Shape := ⟨0, ![]⟩
abbrev S8x16x64x64 : Shape := ⟨4, ![8, 16, 64, 64]⟩
abbrev S1x8x16x64 : Shape := ⟨4, ![1, 8, 16, 64]⟩
abbrev S8x16x64 : Shape := ⟨3, ![8, 16, 64]⟩
abbrev S1x8x16 : Shape := ⟨3, ![1, 8, 16]⟩
abbrev S8x16 : Shape := ⟨2, ![8, 16]⟩
abbrev S8x16x1x1 : Shape := ⟨4, ![8, 16, 1, 1]⟩
abbrev S8x16x64x1 : Shape := ⟨4, ![8, 16, 64, 1]⟩
abbrev S8x16x1x64 : Shape := ⟨4, ![8, 16, 1, 64]⟩
abbrev S2048x8x1024 : Shape := ⟨3, ![2048, 8, 1024]⟩
abbrev S8x2048x1024 : Shape := ⟨3, ![8, 2048, 1024]⟩

abbrev nBuf : Space → Nat
  | .hbm => 82
  | .vmem => 0
  | .smem => 0
  | _ => 0

abbrev bufTy : (tb : Table) → Fin (tcTables nBuf tb) → BufTy
  | .hbm, ⟨0, _⟩ => ⟨S8x16x2048x64, .f32⟩
  | .hbm, ⟨1, _⟩ => ⟨S8x16x2048x64, .f32⟩
  | .hbm, ⟨2, _⟩ => ⟨S8x16x2048x64, .f32⟩
  | .hbm, ⟨3, _⟩ => ⟨S8x2048x16, .f32⟩
  | .hbm, ⟨4, _⟩ => ⟨S8x2048x16, .f32⟩
  | .hbm, ⟨5, _⟩ => ⟨S1024x1024, .f32⟩
  | .hbm, ⟨6, _⟩ => ⟨S2048x8x16x64, .f32⟩
  | .hbm, ⟨7, _⟩ => ⟨S2048x8x16x64, .f32⟩
  | .hbm, ⟨8, _⟩ => ⟨S2048x8x16x64, .f32⟩
  | .hbm, ⟨9, _⟩ => ⟨S2048x8x16, .f32⟩
  | .hbm, ⟨10, _⟩ => ⟨S2048x8x16, .f32⟩
  | .hbm, ⟨11, _⟩ => ⟨S_, .f32⟩
  | .hbm, ⟨12, _⟩ => ⟨S8x16x64x64, .f32⟩
  | .hbm, ⟨13, _⟩ => ⟨S_, .f32⟩
  | .hbm, ⟨14, _⟩ => ⟨S2048x8x16x64, .f32⟩
  | .hbm, ⟨15, _⟩ => ⟨S_, .i32⟩
  | .hbm, ⟨16, _⟩ => ⟨S2048x8x16x64, .f32⟩
  | .hbm, ⟨17, _⟩ => ⟨S2048x8x16x64, .f32⟩
  | .hbm, ⟨18, _⟩ => ⟨S2048x8x16x64, .f32⟩
  | .hbm, ⟨19, _⟩ => ⟨S2048x8x16, .f32⟩
  | .hbm, ⟨20, _⟩ => ⟨S2048x8x16, .f32⟩
  | .hbm, ⟨21, _⟩ => ⟨S_, .i32⟩
  | .hbm, ⟨22, _⟩ => ⟨S8x16x64x64, .f32⟩
  | .hbm, ⟨23, _⟩ => ⟨S2048x8x16x64, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S1x8x16x64, .f32⟩
  | .hbm, ⟨30, _⟩ => ⟨S8x16x64, .f32⟩
  | .hbm, ⟨31, _⟩ => ⟨S_, .i32⟩
  | .hbm, ⟨32, _⟩ => ⟨S_, .i32⟩
  | .hbm, ⟨33, _⟩ => ⟨S_, .i32⟩
  | .hbm, ⟨34, _⟩ => ⟨S1x8x16x64, .f32⟩
  | .hbm, ⟨35, _⟩ => ⟨S8x16x64, .f32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S1x8x16x64, .f32⟩
  | .hbm, ⟨40, _⟩ => ⟨S8x16x64, .f32⟩
  | .hbm, ⟨41, _⟩ => ⟨S_, .i32⟩
  | .hbm, ⟨42, _⟩ => ⟨S_, .i32⟩
  | .hbm, ⟨43, _⟩ => ⟨S1x8x16, .f32⟩
  | .hbm, ⟨44, _⟩ => ⟨S8x16, .f32⟩
  | .hbm, ⟨45, _⟩ => ⟨S_, .i32⟩
  | .hbm, ⟨46, _⟩ => ⟨S_, .i32⟩
  | .hbm, ⟨47, _⟩ => ⟨S1x8x16, .f32⟩
  | .hbm, ⟨48, _⟩ => ⟨S8x16, .f32⟩
  | .hbm, ⟨49, _⟩ => ⟨S8x16x1x1, .f32⟩
  | .hbm, ⟨50, _⟩ => ⟨S8x16x1x1, .f32⟩
  | .hbm, ⟨51, _⟩ => ⟨S8x16x64, .f32⟩
  | .hbm, ⟨52, _⟩ => ⟨S8x16x64x1, .f32⟩
  | .hbm, ⟨53, _⟩ => ⟨S8x16x1x64, .f32⟩
  | .hbm, ⟨54, _⟩ => ⟨S8x16x64x64, .f32⟩
  | .hbm, ⟨55, _⟩ => ⟨S8x16x64x64, .f32⟩
  | .hbm, ⟨56, _⟩ => ⟨S8x16x64x64, .f32⟩
  | .hbm, ⟨57, _⟩ => ⟨S8x16x64x1, .f32⟩
  | .hbm, ⟨58, _⟩ => ⟨S8x16x1x64, .f32⟩
  | .hbm, ⟨59, _⟩ => ⟨S8x16x64x64, .f32⟩
  | .hbm, ⟨60, _⟩ => ⟨S8x16x64x64, .f32⟩
  | .hbm, ⟨61, _⟩ => ⟨S8x16x64x64, .f32⟩
  | .hbm, ⟨62, _⟩ => ⟨S8x16x64x64, .f32⟩
  | .hbm, ⟨63, _⟩ => ⟨S8x16x64x64, .f32⟩
  | .hbm, ⟨64, _⟩ => ⟨S8x16x64x64, .f32⟩
  | .hbm, ⟨65, _⟩ => ⟨S8x16x64x64, .f32⟩
  | .hbm, ⟨66, _⟩ => ⟨S8x16x64x64, .f32⟩
  | .hbm, ⟨67, _⟩ => ⟨S8x16x64x64, .f32⟩
  | .hbm, ⟨68, _⟩ => ⟨S8x16x64x64, .f32⟩
  | .hbm, ⟨69, _⟩ => ⟨S8x16x64x64, .f32⟩
  | .hbm, ⟨70, _⟩ => ⟨S8x16x64, .f32⟩
  | .hbm, ⟨71, _⟩ => ⟨S1x8x16x64, .f32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S2048x8x16x64, .f32⟩
  | .hbm, ⟨76, _⟩ => ⟨S_, .i32⟩
  | .hbm, ⟨77, _⟩ => ⟨S_, .i32⟩
  | .hbm, ⟨78, _⟩ => ⟨S2048x8x1024, .f32⟩
  | .hbm, ⟨79, _⟩ => ⟨S8x2048x1024, .f32⟩
  | .hbm, ⟨80, _⟩ => ⟨S1024x1024, .f32⟩
  | .hbm, ⟨81, _⟩ => ⟨S8x2048x1024, .f32⟩
  | _, _ => ⟨S8x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_c : Ref sig .tc := ⟨.hbm, 15, rfl⟩
abbrev main_v7_0 : Ref sig .tc := ⟨.hbm, 16, rfl⟩
abbrev main_v7_1 : Ref sig .tc := ⟨.hbm, 17, rfl⟩
abbrev main_v7_2 : Ref sig .tc := ⟨.hbm, 18, rfl⟩
abbrev main_v7_3 : Ref sig .tc := ⟨.hbm, 19, rfl⟩
abbrev main_v7_4 : Ref sig .tc := ⟨.hbm, 20, rfl⟩
abbrev main_v7_5 : Ref sig .tc := ⟨.hbm, 21, rfl⟩
abbrev main_v7_6 : Ref sig .tc := ⟨.hbm, 22, rfl⟩
abbrev main_v7_7 : Ref sig .tc := ⟨.hbm, 23, rfl⟩
abbrev main_while0c_c_8 : Ref sig .tc := ⟨.hbm, 24, rfl⟩
abbrev main_while0c_v12 : Ref sig .tc := ⟨.hbm, 25, rfl⟩
abbrev main_while0b_call0_c : Ref sig .tc := ⟨.hbm, 26, rfl⟩
abbrev main_while0b_call0_c_0 : Ref sig .tc := ⟨.hbm, 27, rfl⟩
abbrev main_while0b_call0_c_1 : Ref sig .tc := ⟨.hbm, 28, rfl⟩
abbrev main_while0b_call0_v0 : Ref sig .tc := ⟨.hbm, 29, rfl⟩
abbrev main_while0b_v12 : Ref sig .tc := ⟨.hbm, 30, rfl⟩
abbrev main_while0b_call1_c : Ref sig .tc := ⟨.hbm, 31, rfl⟩
abbrev main_while0b_call1_c_0 : Ref sig .tc := ⟨.hbm, 32, rfl⟩
abbrev main_while0b_call1_c_1 : Ref sig .tc := ⟨.hbm, 33, rfl⟩
abbrev main_while0b_call1_v0 : Ref sig .tc := ⟨.hbm, 34, rfl⟩
abbrev main_while0b_v13 : Ref sig .tc := ⟨.hbm, 35, rfl⟩
abbrev main_while0b_call2_c : Ref sig .tc := ⟨.hbm, 36, rfl⟩
abbrev main_while0b_call2_c_0 : Ref sig .tc := ⟨.hbm, 37, rfl⟩
abbrev main_while0b_call2_c_1 : Ref sig .tc := ⟨.hbm, 38, rfl⟩
abbrev main_while0b_call2_v0 : Ref sig .tc := ⟨.hbm, 39, rfl⟩
abbrev main_while0b_v14 : Ref sig .tc := ⟨.hbm, 40, rfl⟩
abbrev main_while0b_call3_c : Ref sig .tc := ⟨.hbm, 41, rfl⟩
abbrev main_while0b_call3_c_0 : Ref sig .tc := ⟨.hbm, 42, rfl⟩
abbrev main_while0b_call3_v0 : Ref sig .tc := ⟨.hbm, 43, rfl⟩
abbrev main_while0b_v15 : Ref sig .tc := ⟨.hbm, 44, rfl⟩
abbrev main_while0b_call4_c : Ref sig .tc := ⟨.hbm, 45, rfl⟩
abbrev main_while0b_call4_c_0 : Ref sig .tc := ⟨.hbm, 46, rfl⟩
abbrev main_while0b_call4_v0 : Ref sig .tc := ⟨.hbm, 47, rfl⟩
abbrev main_while0b_v16 : Ref sig .tc := ⟨.hbm, 48, rfl⟩
abbrev main_while0b_v17 : Ref sig .tc := ⟨.hbm, 49, rfl⟩
abbrev main_while0b_v18 : Ref sig .tc := ⟨.hbm, 50, rfl⟩
abbrev main_while0b_v19 : Ref sig .tc := ⟨.hbm, 51, rfl⟩
abbrev main_while0b_v20 : Ref sig .tc := ⟨.hbm, 52, rfl⟩
abbrev main_while0b_v21 : Ref sig .tc := ⟨.hbm, 53, rfl⟩
abbrev main_while0b_v22 : Ref sig .tc := ⟨.hbm, 54, rfl⟩
abbrev main_while0b_v23 : Ref sig .tc := ⟨.hbm, 55, rfl⟩
abbrev main_while0b_v24 : Ref sig .tc := ⟨.hbm, 56, rfl⟩
abbrev main_while0b_v25 : Ref sig .tc := ⟨.hbm, 57, rfl⟩
abbrev main_while0b_v26 : Ref sig .tc := ⟨.hbm, 58, rfl⟩
abbrev main_while0b_v27 : Ref sig .tc := ⟨.hbm, 59, rfl⟩
abbrev main_while0b_v28 : Ref sig .tc := ⟨.hbm, 60, rfl⟩
abbrev main_while0b_v29 : Ref sig .tc := ⟨.hbm, 61, rfl⟩
abbrev main_while0b_v30 : Ref sig .tc := ⟨.hbm, 62, rfl⟩
abbrev main_while0b_v31 : Ref sig .tc := ⟨.hbm, 63, rfl⟩
abbrev main_while0b_v32 : Ref sig .tc := ⟨.hbm, 64, rfl⟩
abbrev main_while0b_v33 : Ref sig .tc := ⟨.hbm, 65, rfl⟩
abbrev main_while0b_v34 : Ref sig .tc := ⟨.hbm, 66, rfl⟩
abbrev main_while0b_v35 : Ref sig .tc := ⟨.hbm, 67, rfl⟩
abbrev main_while0b_v36 : Ref sig .tc := ⟨.hbm, 68, rfl⟩
abbrev main_while0b_v37 : Ref sig .tc := ⟨.hbm, 69, rfl⟩
abbrev main_while0b_v38 : Ref sig .tc := ⟨.hbm, 70, rfl⟩
abbrev main_while0b_call5_v0 : Ref sig .tc := ⟨.hbm, 71, rfl⟩
abbrev main_while0b_call5_c : Ref sig .tc := ⟨.hbm, 72, rfl⟩
abbrev main_while0b_call5_c_0 : Ref sig .tc := ⟨.hbm, 73, rfl⟩
abbrev main_while0b_call5_c_1 : Ref sig .tc := ⟨.hbm, 74, rfl⟩
abbrev main_while0b_v39 : Ref sig .tc := ⟨.hbm, 75, rfl⟩
abbrev main_while0b_c_8 : Ref sig .tc := ⟨.hbm, 76, rfl⟩
abbrev main_while0b_v40 : Ref sig .tc := ⟨.hbm, 77, rfl⟩
abbrev main_v8 : Ref sig .tc := ⟨.hbm, 78, rfl⟩
abbrev main_v9 : Ref sig .tc := ⟨.hbm, 79, rfl⟩
abbrev main_v10 : Ref sig .tc := ⟨.hbm, 80, rfl⟩
abbrev main_v11 : Ref sig .tc := ⟨.hbm, 81, rfl⟩

abbrev nD : Nat := 1
abbrev τ : Topo := Topo.v7x

variable {F : FTy → Type} [FloatOps F]

abbrev main_while0_count : Scf.Loop 32 := ⟨0#32, 2048#32, 1#32⟩
-- ==== Proof.Lift.lean ====
/- Extended reals that are real: the few facts by which a whole expression over the extended reals is read as the
   coercion of one real expression, the constants of the kernel, and finite sums over a head's 64 columns. -/
module

public import Idealize.ShloMosaic.Lib.Pointwise
public import Idealize.ShloMosaic.Lib.ReduceAll

@[expose] public section

noncomputable section

namespace Cert.Lift

open Idealize.ShloMosaic

/-- A finite sum of coerced reals is the coerced sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two coerced reals. -/
theorem coe_max (x y : ℝ) : max (x : EReal) (y : EReal) = ((max x y : ℝ) : EReal) :=
  (EReal.coe_strictMono.monotone.map_max).symm

/-- The real number the word of 1e-12 stands for. -/
def eps : ℝ := (2 ^ 23 + 834764 : Nat) * (2 : ℝ) ^ ((87 : Int) - 127 - 23)

theorem eps_pos : 0 < eps := by unfold eps; positivity

theorem ofBits_eps : Ideal.ofBits FTy.f32 730643660#32 = ((eps : ℝ) : EReal) := by
  have h1 : (730643660#32).extractLsb' 31 1 = 0#1 := by decide
  have h2 : (730643660#32).extractLsb' 23 8 = 87#8 := by decide
  have h3 : (730643660#32).extractLsb' 0 23 = 834764#23 := by decide
  simp only [Ideal.ofBits, Ideal.ieee, eps, h1, h2, h3, Nat.reduceAdd]
  norm_num

/-- The word of 1/64. -/
theorem ofBits_64th : Ideal.ofBits FTy.f32 1015021568#32 = ((1 / 64 : ℝ) : EReal) := by
  have h1 : (1015021568#32).extractLsb' 31 1 = 0#1 := by decide
  have h2 : (1015021568#32).extractLsb' 23 8 = 121#8 := by decide
  have h3 : (1015021568#32).extractLsb' 0 23 = 0#23 := by decide
  simp only [Ideal.ofBits, Ideal.ieee, h1, h2, h3, Nat.reduceAdd]
  norm_num

/-- The word of 64. -/
theorem ofBits_64 : Ideal.ofBits FTy.f32 1115684864#32 = ((64 : ℝ) : EReal) := by
  have h1 : (1115684864#32).extractLsb' 31 1 = 0#1 := by decide
  have h2 : (1115684864#32).extractLsb' 23 8 = 133#8 := by decide
  have h3 : (1115684864#32).extractLsb' 0 23 = 0#23 := by decide
  simp only [Ideal.ofBits, Ideal.ieee, h1, h2, h3, Nat.reduceAdd]
  norm_num

theorem sqrt_coe {x : ℝ} (h : 0 ≤ x) : Ideal.sqrt (x : EReal) = ((Real.sqrt x : ℝ) : EReal) := by
  rw [Ideal.sqrt_coe, if_neg (not_lt.2 h)]

theorem div_coe (x : ℝ) {y : ℝ} (h : y ≠ 0) : Ideal.div (x : EReal) (y : EReal) = ((x / y : ℝ) : EReal) := by
  rw [Ideal.div_coe h, ← EReal.coe_mul, mul_one_div]

theorem log_coe {x : ℝ} (h : 0 < x) : Ideal.log (x : EReal) = ((Real.log x : ℝ) : EReal) := by
  rw [Ideal.log_coe, if_neg (not_le.2 h)]

/-- The guarded norm of the normalisation, as a real. -/
theorem guarded_coe {s : ℝ} (h : 0 ≤ s) :
    max (Ideal.sqrt (s : EReal)) (Ideal.ofBits FTy.f32 730643660#32) = ((max (Real.sqrt s) eps : ℝ) : EReal) := by
  rw [sqrt_coe h, ofBits_eps, coe_max]

theorem guarded_ne {s : ℝ} : max (Real.sqrt s) eps ≠ 0 := (lt_max_of_lt_right eps_pos).ne'

/-- The logistic function over the reals. -/
def sig (x : ℝ) : ℝ := (1 + Real.exp (-x))⁻¹

theorem logistic_coe (x : ℝ) : Ideal.logistic (x : EReal) = ((sig x : ℝ) : EReal) := Ideal.logistic_coe ..

/-- The logistic function spelt as a quotient. -/
theorem logistic_div (x : ℝ) : Ideal.div 1 (1 + Ideal.exp (-(x : EReal))) = ((sig x : ℝ) : EReal) := logistic_coe x

/-- Column `64 h + d`, the `d`-th of head `h`. -/
def col (h : Fin 16) (d : Fin 64) : Fin 1024 := ⟨64 * h + d, by omega⟩

/-- The head of a column. -/
def head (c : Fin 1024) : Fin 16 := ⟨c / 64, by omega⟩

/-- The 1024 columns are 16 heads of 64. -/
def colEquiv : Fin 16 × Fin 64 ≃ Fin 1024 where
  toFun p := col p.1 p.2
  invFun c := (head c, ⟨c % 64, Nat.mod_lt _ (by norm_num)⟩)
  left_inv p := by
    rcases p with ⟨h, d⟩
    simp only [col, head, Prod.mk.injEq, Fin.ext_iff]
    omega
  right_inv c := by
    simp only [col, head, Fin.ext_iff]
    omega

theorem head_col (h : Fin 16) (d : Fin 64) : head (col h d) = h := by
  simp only [col, head, Fin.ext_iff]; omega

/-- A sum over all columns that keeps one head's is the sum over that head's columns. -/
theorem sum_head (f : Fin 1024 → ℝ) (h : Fin 16) :
    ∑ c, f c * (if head c = h then (1 : ℝ) else 0) = ∑ d, f (col h d) := by
  rw [← colEquiv.sum_comp, Fintype.sum_prod_type, Finset.sum_eq_single h]
  · refine Finset.sum_congr rfl fun d _ => ?_
    show f (col h d) * (if head (col h d) = h then (1 : ℝ) else 0) = _
    rw [head_col, if_pos rfl, mul_one]
  · intro b _ hb
    refine Finset.sum_eq_zero fun d _ => ?_
    show f (col b d) * (if head (col b d) = h then (1 : ℝ) else 0) = _
    rw [head_col, if_neg hb, mul_zero]
  · exact fun h' => absurd (Finset.mem_univ _) h'

/-- A sum over heads that keeps a column's own. -/
theorem sum_own (g : Fin 16 → ℝ) (c : Fin 1024) : ∑ h, g h * (if head c = h then (1 : ℝ) else 0) = g (head c) := by
  simp only [mul_ite, mul_one, mul_zero, Finset.sum_ite_eq, Finset.mem_univ, if_true]

/-- Of an extended real whose absolute value is below infinity: it is a real. -/
theorem real_of_lt {x : EReal}
    (h : FloatOps.cmpf (F := Ideal) (φ := .f32) .olt (FloatOps.absf (F := Ideal) (φ := .f32) x) (FloatOps.ofBits (F := Ideal) .f32 2139095040#32) = 1#1) :
    ∃ r : ℝ, x = (r : EReal) := by
  have hlt : max x (-x) < ⊤ := by
    by_contra hn
    have h0 : FloatOps.cmpf (F := Ideal) (φ := .f32) .olt (FloatOps.absf (F := Ideal) (φ := .f32) x) (FloatOps.ofBits (F := Ideal) .f32 2139095040#32) = 0#1 := by
      have ht : Ideal.ofBits FTy.f32 2139095040#32 = ⊤ := by
        have h1 : (2139095040#32).extractLsb' 31 1 = 0#1 := by decide
        have h2 : (2139095040#32).extractLsb' 23 8 = 255#8 := by decide
        have h3 : (2139095040#32).extractLsb' 0 23 = 0#23 := by decide
        simp only [Ideal.ofBits, Ideal.ieee, h1, h2, h3, Nat.reduceAdd]
        norm_num
      show BitVec.ofBool (decide (max x (-x) < Ideal.ofBits FTy.f32 2139095040#32)) = 0#1
      rw [ht, decide_eq_false hn]; rfl
    rw [h0] at h
    exact absurd h (by decide)
  induction x using EReal.rec with
  | bot => simp at hlt
  | coe r => exact ⟨r, rfl⟩
  | top => simp at hlt

/-- A reduction by `and` of the elements' finiteness that is 1: every element is a real. -/
theorem real_of_all {s t u v : Shape} {axes : List (Fin s.rank)} [Subsingleton t.Idx] (x : s.Idx → EReal) (init : u.Idx → BitVec 1)
    (h : s.ReducesTo axes t) (hu : 0 < u.numel) (dims : Fin v.rank → Fin s.rank) (hb : v.BroadcastsInDim s dims) (j : t.Idx)
    (e : Host.reduce IntOp.andi (cmpf (F := Ideal) (φ := .f32) .olt (Host.absf (F := Ideal) (φ := .f32) x)
      (broadcastInDim s dims hb (constant (F := Ideal) v .f32 2139095040#32))) init h hu j = 1#1) : ∃ f : s.Idx → ℝ, ∀ i, x i = ((f i : ℝ) : EReal) :=
  Classical.skolem.1 fun i => real_of_lt (Host.reduce_andi_all _ _ _ _ _ e i)

end Cert.Lift

end
-- ==== Proof.Spec.lean ====
/- The projection stage as plain real mathematics: input projection, causal four-tap convolution, silu, and the five
   head-wise projections of it. -/
module

public import proofs.«01_k».proof.Proof.Lift

@[expose] public section

noncomputable section

namespace Cert.Spec

open Cert.Lift

variable (X : Fin 8 → Fin 2048 → Fin 1024 → ℝ) (Wi : Fin 1024 → Fin 1024 → ℝ) (cw : Fin 1024 → Fin 4 → ℝ) (cb : Fin 1024 → ℝ)

/-- The input projection. -/
def proj (b : Fin 8) (t : Fin 2048) (c : Fin 1024) : ℝ := ∑ k, X b t k * Wi c k

/-- The input projection with three rows of zeros before it: row `n` is time `n - 3`. -/
def padded (b : Fin 8) (n : ℕ) (c : Fin 1024) : ℝ :=
  if h : 3 ≤ n ∧ n - 3 < 2048 then proj X Wi b ⟨n - 3, h.2⟩ c else 0

/-- The causal convolution with its bias. -/
def conv (b : Fin 8) (t : Fin 2048) (c : Fin 1024) : ℝ :=
  padded X Wi b t c * cw c 0 + padded X Wi b (1 + t) c * cw c 1 + padded X Wi b (2 + t) c * cw c 2
    + padded X Wi b (3 + t) c * cw c 3 + cb c

/-- The activation, silu of the convolution. -/
def act (b : Fin 8) (t : Fin 2048) (c : Fin 1024) : ℝ := conv X Wi cw cb b t c * sig (conv X Wi cw cb b t c)

/-- A row `a` of activations times a weight matrix. -/
def lin (a : Fin 1024 → ℝ) (W : Fin 1024 → Fin 1024 → ℝ) (r : Fin 1024) : ℝ := ∑ c, a c * W r c

/-- The guarded norm of one head of a row. -/
def nrm (y : Fin 1024 → ℝ) (h : Fin 16) : ℝ := max (Real.sqrt (∑ d, y (col h d) * y (col h d))) eps

/-- The mean of the logistic function over one head of a row. -/
def gate (y : Fin 1024 → ℝ) (h : Fin 16) : ℝ := (∑ d, sig (y (col h d))) / 64

end Cert.Spec

end
-- ==== Proof.RefP.lean ====
module
public import proofs.«01_k».proof.Proof.Gen.ProjRefIdeal.Read
public import proofs.«01_k».proof.Proof.Spec
@[expose] public section
noncomputable section
namespace Cert.RefP
open Cert.ProjRefIdeal Cert.ProjRefIdeal.Gen Cert.ProjRefIdeal.Read Idealize.ShloMosaic Cert.Lift Cert.Spec

/-- The host's sum over the last axis of a four-axis array of coerced reals. -/
theorem red (y : FVec Ideal S8x2048x16x64 .f32) (f : Fin 8 → Fin 2048 → Fin 16 → Fin 64 → ℝ)
    (hy : ∀ b t h d, y (ix4 b t h d) = ((f b t h d : ℝ) : EReal)) (b : Fin 8) (t : Fin 2048) (h : Fin 16) :
    Host.reduceAdd y (val_main_cst_0 (F := Ideal)) reducesTo_S8x2048x16x64_S8x2048x16_d3 h_S_ (ix3 b t h) = ((∑ d, f b t h d : ℝ) : EReal) := by
  pointwise [val_main_cst_0]
  simp only [hy, coe_sum]

/-- The columns of a row, split into heads. -/
theorem split_heads (y : FVec Ideal S8x2048x1024 .f32) (b : Fin 8) (t : Fin 2048) (h : Fin 16) (d : Fin 64) :
    (shapeCast S8x2048x16x64 y shapeCasts_S8x2048x1024_S8x2048x16x64 : FVec Ideal S8x2048x16x64 .f32) (ix4 b t h d) = y (ix3 b t (col h d)) := by
  pointwise
  simp only [col, mul_comm 64]

/-- The sum of the squares of one head. -/
theorem red_sq (y : FVec Ideal S8x2048x16x64 .f32) (f : Fin 8 → Fin 2048 → Fin 16 → Fin 64 → ℝ)
    (hy : ∀ b t h d, y (ix4 b t h d) = ((f b t h d : ℝ) : EReal)) (b : Fin 8) (t : Fin 2048) (h : Fin 16) :
    Host.reduceAdd (mulf y y) (val_main_cst_0 (F := Ideal)) reducesTo_S8x2048x16x64_S8x2048x16_d3 h_S_ (ix3 b t h)
      = ((∑ d, f b t h d * f b t h d : ℝ) : EReal) :=
  red (mulf y y) (fun b t h d => f b t h d * f b t h d) (fun b t h d => by
    pointwise
    rw [hy, ← EReal.coe_mul]) b t h

variable {x0 : (⟨S8x2048x1024, .f32⟩ : BufTy).Contents (Elt Ideal)} {x1 : (⟨S1024x1024, .f32⟩ : BufTy).Contents (Elt Ideal)} {x2 : (⟨S1024x1x4, .f32⟩ : BufTy).Contents (Elt Ideal)} {x3 : (⟨S1024, .f32⟩ : BufTy).Contents (Elt Ideal)}
  {X : Fin 8 → Fin 2048 → Fin 1024 → ℝ} {Wi : Fin 1024 → Fin 1024 → ℝ} {cw : Fin 1024 → Fin 4 → ℝ} {cb : Fin 1024 → ℝ}
  (h0 : ∀ b t k, x0 (ix3 b t k) = ((X b t k : ℝ) : EReal)) (h1 : ∀ r k, x1 (ix2 r k) = ((Wi r k : ℝ) : EReal))
  (h2 : ∀ c j, x2 (ix3 c 0 j) = ((cw c j : ℝ) : EReal)) (h3 : ∀ c, x3 (ix1 c) = ((cb c : ℝ) : EReal))

include h0 h1 in
theorem padded_eq (b : Fin 8) (n : Fin 2051) (c : Fin 1024) : val_main_v2 x0 x1 (ix3 b n c) = ((padded X Wi b n c : ℝ) : EReal) := by
  pointwise [val_main_v2, val_main_v1, val_main_v0, val_main_c, val_main_call0_v0]
  simp only [h0, h1]
  unfold padded proj
  split
  · simp only [← EReal.coe_mul, coe_sum]
  · show ((_ : ℝ) : EReal) = _
    simp

include h0 h1 h2 h3 in
theorem act_eq (b : Fin 8) (t : Fin 2048) (c : Fin 1024) : val_main_v35 x0 x1 x2 x3 (ix3 b t c) = ((act X Wi cw cb b t c : ℝ) : EReal) := by
  pointwise [val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_call1_v0, val_main_call1_v1, val_main_call1_v2, val_main_call1_v3, val_main_call1_v4, val_main_call1_v5, val_main_call1_cst, val_main_call1_cst_0]
  simp only [padded_eq h0 h1, h2, h3]
  simp only [← EReal.coe_mul, ← EReal.coe_add, logistic_div]
  rfl

include h0 h1 h2 h3 in
theorem q_lin {x4 : (⟨S1024x1024, .f32⟩ : BufTy).Contents (Elt Ideal)} {W : Fin 1024 → Fin 1024 → ℝ} (hw : ∀ r k, x4 (ix2 r k) = ((W r k : ℝ) : EReal))
    (b : Fin 8) (t : Fin 2048) (r : Fin 1024) : val_main_v37 x0 x1 x2 x3 x4 (ix3 b t r) = ((lin (act X Wi cw cb b t) W r : ℝ) : EReal) := by
  pointwise [val_main_v37, val_main_v36]
  simp only [act_eq h0 h1 h2 h3, hw, ← EReal.coe_mul, coe_sum]
  rfl

include h0 h1 h2 h3 in
theorem q_split {x4 : (⟨S1024x1024, .f32⟩ : BufTy).Contents (Elt Ideal)} {W : Fin 1024 → Fin 1024 → ℝ} (hw : ∀ r k, x4 (ix2 r k) = ((W r k : ℝ) : EReal))
    (b : Fin 8) (t : Fin 2048) (h : Fin 16) (d : Fin 64) : val_main_v38 x0 x1 x2 x3 x4 (ix4 b t h d) = ((lin (act X Wi cw cb b t) W (col h d) : ℝ) : EReal) :=
  (split_heads _ b t h d).trans (q_lin h0 h1 h2 h3 hw b t _)

include h0 h1 h2 h3 in
theorem q_sq {x4 : (⟨S1024x1024, .f32⟩ : BufTy).Contents (Elt Ideal)} {W : Fin 1024 → Fin 1024 → ℝ} (hw : ∀ r k, x4 (ix2 r k) = ((W r k : ℝ) : EReal))
    (b : Fin 8) (t : Fin 2048) (h : Fin 16) : val_main_v40 x0 x1 x2 x3 x4 (ix3 b t h)
      = ((∑ d, lin (act X Wi cw cb b t) W (col h d) * lin (act X Wi cw cb b t) W (col h d) : ℝ) : EReal) :=
  red_sq _ (fun b t h d => lin (act X Wi cw cb b t) W (col h d)) (q_split h0 h1 h2 h3 hw) b t h

include h0 h1 h2 h3 in
theorem q_eq {x4 : (⟨S1024x1024, .f32⟩ : BufTy).Contents (Elt Ideal)} {W : Fin 1024 → Fin 1024 → ℝ} (hw : ∀ r k, x4 (ix2 r k) = ((W r k : ℝ) : EReal))
    (b : Fin 8) (h : Fin 16) (t : Fin 2048) (d : Fin 64) : val_main_v91 x0 x1 x2 x3 x4 (ix4 b h t d)
      = ((lin (act X Wi cw cb b t) W (col h d) / nrm (lin (act X Wi cw cb b t) W) h : ℝ) : EReal) := by
  pointwise [val_main_v91, val_main_v46, val_main_v45, val_main_v44, val_main_v43, val_main_v42, val_main_v41, val_main_cst_1]
  rw [q_split h0 h1 h2 h3 hw, q_sq h0 h1 h2 h3 hw, guarded_coe (Finset.sum_nonneg fun _ _ => mul_self_nonneg _), div_coe _ guarded_ne]
  rfl

include h0 h1 h2 h3 in
theorem k_lin {x5 : (⟨S1024x1024, .f32⟩ : BufTy).Contents (Elt Ideal)} {W : Fin 1024 → Fin 1024 → ℝ} (hw : ∀ r k, x5 (ix2 r k) = ((W r k : ℝ) : EReal))
    (b : Fin 8) (t : Fin 2048) (r : Fin 1024) : val_main_v48 x0 x1 x2 x3 x5 (ix3 b t r) = ((lin (act X Wi cw cb b t) W r : ℝ) : EReal) := by
  pointwise [val_main_v48, val_main_v47]
  simp only [act_eq h0 h1 h2 h3, hw, ← EReal.coe_mul, coe_sum]
  rfl

include h0 h1 h2 h3 in
theorem k_split {x5 : (⟨S1024x1024, .f32⟩ : BufTy).Contents (Elt Ideal)} {W : Fin 1024 → Fin 1024 → ℝ} (hw : ∀ r k, x5 (ix2 r k) = ((W r k : ℝ) : EReal))
    (b : Fin 8) (t : Fin 2048) (h : Fin 16) (d : Fin 64) : val_main_v49 x0 x1 x2 x3 x5 (ix4 b t h d) = ((lin (act X Wi cw cb b t) W (col h d) : ℝ) : EReal) :=
  (split_heads _ b t h d).trans (k_lin h0 h1 h2 h3 hw b t _)

include h0 h1 h2 h3 in
theorem k_sq {x5 : (⟨S1024x1024, .f32⟩ : BufTy).Contents (Elt Ideal)} {W : Fin 1024 → Fin 1024 → ℝ} (hw : ∀ r k, x5 (ix2 r k) = ((W r k : ℝ) : EReal))
    (b : Fin 8) (t : Fin 2048) (h : Fin 16) : val_main_v51 x0 x1 x2 x3 x5 (ix3 b t h)
      = ((∑ d, lin (act X Wi cw cb b t) W (col h d) * lin (act X Wi cw cb b t) W (col h d) : ℝ) : EReal) :=
  red_sq _ (fun b t h d => lin (act X Wi cw cb b t) W (col h d)) (k_split h0 h1 h2 h3 hw) b t h

include h0 h1 h2 h3 in
theorem k_eq {x5 : (⟨S1024x1024, .f32⟩ : BufTy).Contents (Elt Ideal)} {W : Fin 1024 → Fin 1024 → ℝ} (hw : ∀ r k, x5 (ix2 r k) = ((W r k : ℝ) : EReal))
    (b : Fin 8) (h : Fin 16) (t : Fin 2048) (d : Fin 64) : val_main_v92 x0 x1 x2 x3 x5 (ix4 b h t d)
      = ((lin (act X Wi cw cb b t) W (col h d) / nrm (lin (act X Wi cw cb b t) W) h : ℝ) : EReal) := by
  pointwise [val_main_v92, val_main_v57, val_main_v56, val_main_v55, val_main_v54, val_main_v53, val_main_v52, val_main_cst_3]
  rw [k_split h0 h1 h2 h3 hw, k_sq h0 h1 h2 h3 hw, guarded_coe (Finset.sum_nonneg fun _ _ => mul_self_nonneg _), div_coe _ guarded_ne]
  rfl

include h0 h1 h2 h3 in
theorem v_lin {x6 : (⟨S1024x1024, .f32⟩ : BufTy).Contents (Elt Ideal)} {W : Fin 1024 → Fin 1024 → ℝ} (hw : ∀ r k, x6 (ix2 r k) = ((W r k : ℝ) : EReal))
    (b : Fin 8) (t : Fin 2048) (r : Fin 1024) : val_main_v59 x0 x1 x2 x3 x6 (ix3 b t r) = ((lin (act X Wi cw cb b t) W r : ℝ) : EReal) := by
  pointwise [val_main_v59, val_main_v58]
  simp only [act_eq h0 h1 h2 h3, hw, ← EReal.coe_mul, coe_sum]
  rfl

include h0 h1 h2 h3 in
theorem v_split {x6 : (⟨S1024x1024, .f32⟩ : BufTy).Contents (Elt Ideal)} {W : Fin 1024 → Fin 1024 → ℝ} (hw : ∀ r k, x6 (ix2 r k) = ((W r k : ℝ) : EReal))
    (b : Fin 8) (t : Fin 2048) (h : Fin 16) (d : Fin 64) : val_main_v60 x0 x1 x2 x3 x6 (ix4 b t h d) = ((lin (act X Wi cw cb b t) W (col h d) : ℝ) : EReal) :=
  (split_heads _ b t h d).trans (v_lin h0 h1 h2 h3 hw b t _)

include h0 h1 h2 h3 in
theorem v_eq {x6 : (⟨S1024x1024, .f32⟩ : BufTy).Contents (Elt Ideal)} {W : Fin 1024 → Fin 1024 → ℝ} (hw : ∀ r k, x6 (ix2 r k) = ((W r k : ℝ) : EReal))
    (b : Fin 8) (h : Fin 16) (t : Fin 2048) (d : Fin 64) : val_main_v93 x0 x1 x2 x3 x6 (ix4 b h t d)
      = ((lin (act X Wi cw cb b t) W (col h d) : ℝ) : EReal) := by
  pointwise [val_main_v93]
  rw [v_split h0 h1 h2 h3 hw]

include h0 h1 h2 h3 in
theorem alpha_lin {x7 : (⟨S1024x1024, .f32⟩ : BufTy).Contents (Elt Ideal)} {W : Fin 1024 → Fin 1024 → ℝ} (hw : ∀ r k, x7 (ix2 r k) = ((W r k : ℝ) : EReal))
    (b : Fin 8) (t : Fin 2048) (r : Fin 1024) : val_main_v62 x0 x1 x2 x3 x7 (ix3 b t r) = ((lin (act X Wi cw cb b t) W r : ℝ) : EReal) := by
  pointwise [val_main_v62, val_main_v61]
  simp only [act_eq h0 h1 h2 h3, hw, ← EReal.coe_mul, coe_sum]
  rfl

include h0 h1 h2 h3 in
theorem alpha_sig {x7 : (⟨S1024x1024, .f32⟩ : BufTy).Contents (Elt Ideal)} {x8 : (⟨S1024, .f32⟩ : BufTy).Contents (Elt Ideal)} {W : Fin 1024 → Fin 1024 → ℝ} {B : Fin 1024 → ℝ}
    (hw : ∀ r k, x7 (ix2 r k) = ((W r k : ℝ) : EReal)) (hb : ∀ r, x8 (ix1 r) = ((B r : ℝ) : EReal))
    (b : Fin 8) (t : Fin 2048) (r : Fin 1024) : val_main_v71 x0 x1 x2 x3 x7 x8 (ix3 b t r)
      = ((sig (lin (act X Wi cw cb b t) W r + B r) : ℝ) : EReal) := by
  pointwise [val_main_v71, val_main_v70, val_main_v69, val_main_v68, val_main_v67, val_main_v66, val_main_v65, val_main_v64, val_main_v63, val_main_cst_4, val_main_cst_5]
  rw [alpha_lin h0 h1 h2 h3 hw, hb, ← EReal.coe_add, logistic_div]

include h0 h1 h2 h3 in
theorem alpha_sum {x7 : (⟨S1024x1024, .f32⟩ : BufTy).Contents (Elt Ideal)} {x8 : (⟨S1024, .f32⟩ : BufTy).Contents (Elt Ideal)} {W : Fin 1024 → Fin 1024 → ℝ} {B : Fin 1024 → ℝ}
    (hw : ∀ r k, x7 (ix2 r k) = ((W r k : ℝ) : EReal)) (hb : ∀ r, x8 (ix1 r) = ((B r : ℝ) : EReal))
    (b : Fin 8) (t : Fin 2048) (h : Fin 16) : val_main_v73 x0 x1 x2 x3 x7 x8 (ix3 b t h)
      = ((∑ d, sig (lin (act X Wi cw cb b t) W (col h d) + B (col h d)) : ℝ) : EReal) :=
  red _ (fun b t h d => sig (lin (act X Wi cw cb b t) W (col h d) + B (col h d)))
    (fun b t h d => (split_heads _ b t h d).trans (alpha_sig h0 h1 h2 h3 hw hb b t _)) b t h

include h0 h1 h2 h3 in
theorem alpha_eq {x7 : (⟨S1024x1024, .f32⟩ : BufTy).Contents (Elt Ideal)} {x8 : (⟨S1024, .f32⟩ : BufTy).Contents (Elt Ideal)} {W : Fin 1024 → Fin 1024 → ℝ} {B : Fin 1024 → ℝ}
    (hw : ∀ r k, x7 (ix2 r k) = ((W r k : ℝ) : EReal)) (hb : ∀ r, x8 (ix1 r) = ((B r : ℝ) : EReal))
    (b : Fin 8) (t : Fin 2048) (h : Fin 16) : val_main_v75 x0 x1 x2 x3 x7 x8 (ix3 b t h)
      = ((gate (fun r => lin (act X Wi cw cb b t) W r + B r) h : ℝ) : EReal) := by
  pointwise [val_main_v75, val_main_v74, val_main_cst_7]
  rw [alpha_sum h0 h1 h2 h3 hw hb, ofBits_64, div_coe _ (by norm_num)]
  rfl

include h0 h1 h2 h3 in
theorem beta_lin {x9 : (⟨S1024x1024, .f32⟩ : BufTy).Contents (Elt Ideal)} {W : Fin 1024 → Fin 1024 → ℝ} (hw : ∀ r k, x9 (ix2 r k) = ((W r k : ℝ) : EReal))
    (b : Fin 8) (t : Fin 2048) (r : Fin 1024) : val_main_v77 x0 x1 x2 x3 x9 (ix3 b t r) = ((lin (act X Wi cw cb b t) W r : ℝ) : EReal) := by
  pointwise [val_main_v77, val_main_v76]
  simp only [act_eq h0 h1 h2 h3, hw, ← EReal.coe_mul, coe_sum]
  rfl

include h0 h1 h2 h3 in
theorem beta_sig {x9 : (⟨S1024x1024, .f32⟩ : BufTy).Contents (Elt Ideal)} {x10 : (⟨S1024, .f32⟩ : BufTy).Contents (Elt Ideal)} {W : Fin 1024 → Fin 1024 → ℝ} {B : Fin 1024 → ℝ}
    (hw : ∀ r k, x9 (ix2 r k) = ((W r k : ℝ) : EReal)) (hb : ∀ r, x10 (ix1 r) = ((B r : ℝ) : EReal))
    (b : Fin 8) (t : Fin 2048) (r : Fin 1024) : val_main_v86 x0 x1 x2 x3 x9 x10 (ix3 b t r)
      = ((sig (lin (act X Wi cw cb b t) W r + B r) : ℝ) : EReal) := by
  pointwise [val_main_v86, val_main_v85, val_main_v84, val_main_v83, val_main_v82, val_main_v81, val_main_v80, val_main_v79, val_main_v78, val_main_cst_8, val_main_cst_9]
  rw [beta_lin h0 h1 h2 h3 hw, hb, ← EReal.coe_add, logistic_div]

include h0 h1 h2 h3 in
theorem beta_sum {x9 : (⟨S1024x1024, .f32⟩ : BufTy).Contents (Elt Ideal)} {x10 : (⟨S1024, .f32⟩ : BufTy).Contents (Elt Ideal)} {W : Fin 1024 → Fin 1024 → ℝ} {B : Fin 1024 → ℝ}
    (hw : ∀ r k, x9 (ix2 r k) = ((W r k : ℝ) : EReal)) (hb : ∀ r, x10 (ix1 r) = ((B r : ℝ) : EReal))
    (b : Fin 8) (t : Fin 2048) (h : Fin 16) : val_main_v88 x0 x1 x2 x3 x9 x10 (ix3 b t h)
      = ((∑ d, sig (lin (act X Wi cw cb b t) W (col h d) + B (col h d)) : ℝ) : EReal) :=
  red _ (fun b t h d => sig (lin (act X Wi cw cb b t) W (col h d) + B (col h d)))
    (fun b t h d => (split_heads _ b t h d).trans (beta_sig h0 h1 h2 h3 hw hb b t _)) b t h

include h0 h1 h2 h3 in
theorem beta_eq {x9 : (⟨S1024x1024, .f32⟩ : BufTy).Contents (Elt Ideal)} {x10 : (⟨S1024, .f32⟩ : BufTy).Contents (Elt Ideal)} {W : Fin 1024 → Fin 1024 → ℝ} {B : Fin 1024 → ℝ}
    (hw : ∀ r k, x9 (ix2 r k) = ((W r k : ℝ) : EReal)) (hb : ∀ r, x10 (ix1 r) = ((B r : ℝ) : EReal))
    (b : Fin 8) (t : Fin 2048) (h : Fin 16) : val_main_v90 x0 x1 x2 x3 x9 x10 (ix3 b t h)
      = ((gate (fun r => lin (act X Wi cw cb b t) W r + B r) h : ℝ) : EReal) := by
  pointwise [val_main_v90, val_main_v89, val_main_cst_11]
  rw [beta_sum h0 h1 h2 h3 hw hb, ofBits_64, div_coe _ (by norm_num)]
  rfl

end Cert.RefP

end
-- ==== Proof.BlkP.lean ====
/- The projection kernel's windows: which elements of the arguments a grid point's blocks hold. -/
module
public import proofs.«01_k».proof.Proof.Gen.ProjIdeal.Value
public import Idealize.ShloMosaic.Lib.Pipeline.ValueKit
public import Idealize.ShloMosaic.Lib.Claim
public import Idealize.ShloMosaic.Lib.Pointwise
@[expose] public section
noncomputable section
namespace Cert.BlkP
open Cert.ProjIdeal Cert.ProjIdeal.Gen Idealize.ShloMosaic Idealize.ShloMosaic.TcCoe

variable (m : (ℓ : Loc nD τ sig) → Buf (Elt Ideal) ℓ) (c : Dev nD)

/-- Every window's block index and the grid's last coordinate in terms of the point's number. -/
theorem idx : ∀ t : Fin cfg0.N, win0_0.index t = ![t.val / 8, t.val % 8, 0] ∧ win0_1.index t = ![t.val / 8, t.val % 8 * 32 - 1, 0, 0]
    ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0]
    ∧ t.val / 8 < 8 ∧ (grid0.coords t 2).val = t.val % 8 :=
  (by decide +kernel : ∀ t : Fin grid0.N, _)

theorem lt8 (t : Fin cfg0.N) : t.val / 8 < 8 := by have := idx t; omega

theorem coord2 (t : Fin cfg0.N) : (grid0.coords t 2).val = t.val % 8 := by have := idx t; simp only [this]

theorem blk0 (t : Fin cfg0.N) (r : Fin 256) (k : Fin 1024) :
    iblk m c 0 t (ix3 0 r k) = m ((c : Thread nD τ).loc main_arg0) (ix3 ⟨t.val / 8, lt8 t⟩ ⟨t.val % 8 * 256 + r, by omega⟩ k) := by
  blk_ext [iblk, V, idx t]

theorem blk1 (t : Fin cfg0.N) (r : Fin 8) (k : Fin 1024) :
    iblk m c 1 t (ix4 0 0 r k) = m ((c : Thread nD τ).loc main_arg0) (ix3 ⟨t.val / 8, lt8 t⟩ ⟨(t.val % 8 * 32 - 1) * 8 + r, by omega⟩ k) := by
  blk_simp [iblk, idx t]
  entry_read
  refine (congrArg _ (show (((View.whole main_v35).slice (win0_1.rect t)).emb (ix4 0 0 r k)) = ix4 ⟨t.val / 8, lt8 t⟩ ⟨t.val % 8 * 32 - 1, by omega⟩ r k by
    blk_ext [idx t])).trans ?_
  pointwise

theorem blk2 (t : Fin cfg0.N) (r k : Fin 1024) : iblk m c 2 t (ix2 r k) = m ((c : Thread nD τ).loc main_arg1) (ix2 k r) := by
  blk_simp [iblk, idx t]
  entry_read
  refine (congrArg _ (show (((View.whole main_v1).slice (win0_2.rect t)).emb (ix2 r k)) = ix2 r k by blk_ext [idx t])).trans ?_
  pointwise

theorem blk3 (t : Fin cfg0.N) (r k : Fin 1024) {x : ℝ} (hx : m ((c : Thread nD τ).loc main_arg1) (ix2 k r) = ((x : ℝ) : EReal)) :
    iblk m c 3 t (ix2 r k) = ((0 : ℝ) : EReal) := by
  blk_simp [iblk, idx t]
  entry_read
  refine (congrArg _ (show (((View.whole main_v4).slice (win0_3.rect t)).emb (ix2 r k)) = ix2 r k by blk_ext [idx t])).trans ?_
  pointwise
  exact (congrArg (fun y : EReal => y - y) hx).trans (by rw [← EReal.coe_sub, sub_self])

theorem blk6 (t : Fin cfg0.N) (r k : Fin 1024) : iblk m c 6 t (ix2 r k) = m ((c : Thread nD τ).loc main_arg4) (ix2 k r) := by
  blk_simp [iblk, idx t]
  entry_read
  refine (congrArg _ (show (((View.whole main_v9).slice (win0_6.rect t)).emb (ix2 r k)) = ix2 r k by blk_ext [idx t])).trans ?_
  pointwise

theorem blk7 (t : Fin cfg0.N) (r k : Fin 1024) {x : ℝ} (hx : m ((c : Thread nD τ).loc main_arg4) (ix2 k r) = ((x : ℝ) : EReal)) :
    iblk m c 7 t (ix2 r k) = ((0 : ℝ) : EReal) := by
  blk_simp [iblk, idx t]
  entry_read
  refine (congrArg _ (show (((View.whole main_v12).slice (win0_7.rect t)).emb (ix2 r k)) = ix2 r k by blk_ext [idx t])).trans ?_
  pointwise
  exact (congrArg (fun y : EReal => y - y) hx).trans (by rw [← EReal.coe_sub, sub_self])

theorem blk8 (t : Fin cfg0.N) (r k : Fin 1024) : iblk m c 8 t (ix2 r k) = m ((c : Thread nD τ).loc main_arg5) (ix2 k r) := by
  blk_simp [iblk, idx t]
  entry_read
  refine (congrArg _ (show (((View.whole main_v14).slice (win0_8.rect t)).emb (ix2 r k)) = ix2 r k by blk_ext [idx t])).trans ?_
  pointwise

theorem blk9 (t : Fin cfg0.N) (r k : Fin 1024) {x : ℝ} (hx : m ((c : Thread nD τ).loc main_arg5) (ix2 k r) = ((x : ℝ) : EReal)) :
    iblk m c 9 t (ix2 r k) = ((0 : ℝ) : EReal) := by
  blk_simp [iblk, idx t]
  entry_read
  refine (congrArg _ (show (((View.whole main_v17).slice (win0_9.rect t)).emb (ix2 r k)) = ix2 r k by blk_ext [idx t])).trans ?_
  pointwise
  exact (congrArg (fun y : EReal => y - y) hx).trans (by rw [← EReal.coe_sub, sub_self])

theorem blk10 (t : Fin cfg0.N) (r k : Fin 1024) : iblk m c 10 t (ix2 r k) = m ((c : Thread nD τ).loc main_arg6) (ix2 k r) := by
  blk_simp [iblk, idx t]
  entry_read
  refine (congrArg _ (show (((View.whole main_v19).slice (win0_10.rect t)).emb (ix2 r k)) = ix2 r k by blk_ext [idx t])).trans ?_
  pointwise

theorem blk11 (t : Fin cfg0.N) (r k : Fin 1024) {x : ℝ} (hx : m ((c : Thread nD τ).loc main_arg6) (ix2 k r) = ((x : ℝ) : EReal)) :
    iblk m c 11 t (ix2 r k) = ((0 : ℝ) : EReal) := by
  blk_simp [iblk, idx t]
  entry_read
  refine (congrArg _ (show (((View.whole main_v22).slice (win0_11.rect t)).emb (ix2 r k)) = ix2 r k by blk_ext [idx t])).trans ?_
  pointwise
  exact (congrArg (fun y : EReal => y - y) hx).trans (by rw [← EReal.coe_sub, sub_self])

theorem blk12 (t : Fin cfg0.N) (r k : Fin 1024) : iblk m c 12 t (ix2 r k) = m ((c : Thread nD τ).loc main_arg7) (ix2 k r) := by
  blk_simp [iblk, idx t]
  entry_read
  refine (congrArg _ (show (((View.whole main_v24).slice (win0_12.rect t)).emb (ix2 r k)) = ix2 r k by blk_ext [idx t])).trans ?_
  pointwise

theorem blk13 (t : Fin cfg0.N) (r k : Fin 1024) {x : ℝ} (hx : m ((c : Thread nD τ).loc main_arg7) (ix2 k r) = ((x : ℝ) : EReal)) :
    iblk m c 13 t (ix2 r k) = ((0 : ℝ) : EReal) := by
  blk_simp [iblk, idx t]
  entry_read
  refine (congrArg _ (show (((View.whole main_v27).slice (win0_13.rect t)).emb (ix2 r k)) = ix2 r k by blk_ext [idx t])).trans ?_
  pointwise
  exact (congrArg (fun y : EReal => y - y) hx).trans (by rw [← EReal.coe_sub, sub_self])

theorem blk15 (t : Fin cfg0.N) (r k : Fin 1024) : iblk m c 15 t (ix2 r k) = m ((c : Thread nD τ).loc main_arg9) (ix2 k r) := by
  blk_simp [iblk, idx t]
  entry_read
  refine (congrArg _ (show (((View.whole main_v29).slice (win0_15.rect t)).emb (ix2 r k)) = ix2 r k by blk_ext [idx t])).trans ?_
  pointwise

theorem blk16 (t : Fin cfg0.N) (r k : Fin 1024) {x : ℝ} (hx : m ((c : Thread nD τ).loc main_arg9) (ix2 k r) = ((x : ℝ) : EReal)) :
    iblk m c 16 t (ix2 r k) = ((0 : ℝ) : EReal) := by
  blk_simp [iblk, idx t]
  entry_read
  refine (congrArg _ (show (((View.whole main_v32).slice (win0_16.rect t)).emb (ix2 r k)) = ix2 r k by blk_ext [idx t])).trans ?_
  pointwise
  exact (congrArg (fun y : EReal => y - y) hx).trans (by rw [← EReal.coe_sub, sub_self])

theorem blk4 (t : Fin cfg0.N) (j : Fin 4) (k : Fin 1024) : iblk m c 4 t (ix2 j k) = m ((c : Thread nD τ).loc main_arg2) (ix3 k 0 j) := by
  blk_simp [iblk, idx t]
  entry_read
  refine (congrArg _ (show (((View.whole main_v6).slice (win0_4.rect t)).emb (ix2 j k)) = ix2 j k by blk_ext [idx t])).trans ?_
  pointwise

theorem blk5 (t : Fin cfg0.N) (k : Fin 1024) : iblk m c 5 t (ix2 0 k) = m ((c : Thread nD τ).loc main_arg3) (ix1 k) := by
  blk_simp [iblk, idx t]
  entry_read
  refine (congrArg _ (show (((View.whole main_v7).slice (win0_5.rect t)).emb (ix2 0 k)) = ix2 0 k by blk_ext [idx t])).trans ?_
  pointwise

theorem blk14 (t : Fin cfg0.N) (k : Fin 1024) : iblk m c 14 t (ix2 0 k) = m ((c : Thread nD τ).loc main_arg8) (ix1 k) := by
  blk_simp [iblk, idx t]
  entry_read
  refine (congrArg _ (show (((View.whole main_v33).slice (win0_14.rect t)).emb (ix2 0 k)) = ix2 0 k by blk_ext [idx t])).trans ?_
  pointwise

theorem blk17 (t : Fin cfg0.N) (k : Fin 1024) : iblk m c 17 t (ix2 0 k) = m ((c : Thread nD τ).loc main_arg10) (ix1 k) := by
  blk_simp [iblk, idx t]
  entry_read
  refine (congrArg _ (show (((View.whole main_v34).slice (win0_17.rect t)).emb (ix2 0 k)) = ix2 0 k by blk_ext [idx t])).trans ?_
  pointwise

end Cert.BlkP

end
-- ==== Proof.KernP.lean ====
/- The projection kernel's payloads over blocks of coerced reals. -/
module
public import proofs.«01_k».proof.Proof.Gen.ProjIdeal.Frame
public import proofs.«01_k».proof.Proof.Spec
@[expose] public section
noncomputable section
namespace Cert.KernP
open Cert.ProjIdeal Cert.ProjIdeal.Gen Idealize.ShloMosaic Cert.Lift Cert.Spec

theorem own_bits : ∀ (r : Fin 1024) (c : Fin 16),
    BitVec.setWidth 32 (IntOp.cmpi CmpIPredicate.eq
      (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 64#32 0#32)) (Scalar.extui (Scalar.cmpi CmpIPredicate.slt 64#32 0#32))))
          (IntOp.cmpi CmpIPredicate.ne (IntOp.remsi ArithUnit.vector (BitVec.ofNat 32 r.val) 64#32) 0#32))
        (IntOp.subi (IntOp.divsi ArithUnit.vector (BitVec.ofNat 32 r.val) 64#32) 1#32)
        (IntOp.divsi ArithUnit.vector (BitVec.ofNat 32 r.val) 64#32))
      (BitVec.ofNat 32 c.val)) = if r.val / 64 = c.val then 1#32 else 0#32 := by
  decide +kernel

/-- The kernel's table of which column belongs to which head. -/
abbrev own : FVec Ideal S1024x16 .bf16 :=
  k0_pay9 (F := Ideal) (iota .tc S1024x16 32 [0] iota_S1024x16_d0_w32) (iota .tc S1024x16 32 [1] iota_S1024x16_d1_w32) 64#32 k0_pay7 k0_pay8
    (Scalar.extui (Scalar.cmpi .sgt 64#32 0#32))

/-- It is 1 where column `r` belongs to head `c` and 0 elsewhere. -/
theorem own_eq (r : Fin 1024) (c : Fin 16) : own (ix2 r c) = ((if head r = c then 1 else 0 : ℝ) : EReal) := by
  pointwise [k0_pay9, k0_pay7, k0_pay8]
  rw [own_bits]
  simp only [head, Fin.ext_iff]
  show (((if r.val / 64 = c.val then 1#32 else 0#32 : BitVec 32).toInt : ℝ) : EReal) = _
  split <;> simp

variable {a : Fin 256 → Fin 1024 → ℝ} {W : Fin 1024 → Fin 1024 → ℝ} {B : Fin 1024 → ℝ}

section
variable {hi lo : FVec Ideal S256x1024 .bf16} {w w' : FVec Ideal S1024x1024 .bf16}
    (hhi : ∀ r c, hi (ix2 r c) = ((a r c : ℝ) : EReal)) (hlo : ∀ r c, lo (ix2 r c) = ((0 : ℝ) : EReal))
    (hw : ∀ k c, w (ix2 k c) = ((W c k : ℝ) : EReal)) (hw' : ∀ k c, w' (ix2 k c) = ((0 : ℝ) : EReal))
include hhi hlo hw hw'

theorem q_lin (r : Fin 256) (c : Fin 1024) : k0_pay10 hi lo w w' (ix2 r c) = ((lin (a r) W c : ℝ) : EReal) := by
  pointwise [k0_pay10]
  simp only [hhi, hlo, hw, hw', ← EReal.coe_mul, coe_sum, ← EReal.coe_add, mul_zero, zero_mul, Finset.sum_const_zero, add_zero]
  rfl

variable {u v : IVec S1024x16 32} {n : BitVec 32} {x y : IVec S1024x16 32} {z : BitVec 32}
    (ho : ∀ r c, k0_pay9 (F := Ideal) u v n x y z (ix2 r c) = ((if head r = c then 1 else 0 : ℝ) : EReal))
include ho

theorem q_inv (r : Fin 256) (h : Fin 16) : k0_pay11 hi lo u v n x y z w w' (ix2 r h) = ((1 / nrm (lin (a r) W) h : ℝ) : EReal) := by
  pointwise [k0_pay11]
  simp only [q_lin hhi hlo hw hw', ho, ← EReal.coe_mul, ← EReal.coe_sub, sub_self, zero_mul, coe_sum, ← EReal.coe_add, Finset.sum_const_zero, add_zero]
  rw [sum_head fun c => lin (a r) W c * lin (a r) W c, guarded_coe (Finset.sum_nonneg fun _ _ => mul_self_nonneg _), ← EReal.coe_one, div_coe _ guarded_ne]
  rfl

theorem q_norm (r : Fin 256) (c : Fin 1024) :
    k0_pay15 (k0_pay9 (F := Ideal) u v n x y z) (k0_pay10 hi lo w w') (k0_pay13 hi lo u v n x y z w w') (k0_pay14 hi lo u v n x y z w w')
      (constant S256x1024 .f32 0x00000000#32) (ix2 r c) = ((lin (a r) W c / nrm (lin (a r) W) (head c) : ℝ) : EReal) := by
  pointwise [k0_pay15, k0_pay14, k0_pay13, k0_pay12]
  simp only [q_lin hhi hlo hw hw', q_inv hhi hlo hw hw' ho, ho, ← EReal.coe_mul, ← EReal.coe_sub, sub_self, zero_mul, coe_sum, ← EReal.coe_add, Finset.sum_const_zero, add_zero]
  rw [sum_own, mul_one_div]

theorem k_norm (r : Fin 256) (c : Fin 1024) :
    k0_pay16 hi lo (k0_pay9 (F := Ideal) u v n x y z) w w' (ix2 r c) = ((lin (a r) W c / nrm (lin (a r) W) (head c) : ℝ) : EReal) :=
  q_norm hhi hlo hw hw' ho r c

omit ho
theorem v_lin (r : Fin 256) (c : Fin 1024) :
    k0_pay19 hi (k0_pay17 w') (k0_pay18 hi lo w) (constant S256x1024 .f32 0x00000000#32) (ix2 r c) = ((lin (a r) W c : ℝ) : EReal) := by
  pointwise [k0_pay19, k0_pay18, k0_pay17]
  simp only [hhi, hlo, hw, hw', ← EReal.coe_mul, coe_sum, ← EReal.coe_add, mul_zero, zero_mul, Finset.sum_const_zero, add_zero]
  rfl

theorem a_sig {bb : FVec Ideal S1x1024 .f32} (hb : ∀ c, bb (ix2 0 c) = ((B c : ℝ) : EReal)) (r : Fin 256) (c : Fin 1024) :
    k0_pay75 hi lo w w' bb (ix2 r c) = ((sig (lin (a r) W c + B c) : ℝ) : EReal) := by
  pointwise [k0_pay75]
  simp only [hhi, hlo, hw, hw', hb, ← EReal.coe_mul, coe_sum, ← EReal.coe_add, mul_zero, zero_mul, Finset.sum_const_zero, add_zero, logistic_coe]
  rfl

theorem b_sig {bb : FVec Ideal S1x1024 .f32} (hb : ∀ c, bb (ix2 0 c) = ((B c : ℝ) : EReal)) (r : Fin 256) (c : Fin 1024) :
    k0_pay76 hi lo w w' bb (ix2 r c) = ((sig (lin (a r) W c + B c) : ℝ) : EReal) :=
  a_sig hhi hlo hw hw' hb r c

end

theorem mean {y : FVec Ideal S256x1024 .f32} {f : Fin 256 → Fin 1024 → ℝ} (hy : ∀ r c, y (ix2 r c) = ((sig (f r c) : ℝ) : EReal)) (r : Fin 256) (h : Fin 16) :
    k0_pay1 own y (ix3 0 r h) = ((gate (f r) h : ℝ) : EReal) := by
  pointwise [k0_pay1]
  simp only [hy, own_eq, ← EReal.coe_mul, ← EReal.coe_sub, sub_self, zero_mul, coe_sum, ← EReal.coe_add, Finset.sum_const_zero, add_zero, ofBits_64th]
  rw [sum_head fun c => sig (f r c), mul_one_div]
  rfl

theorem mean' {y : FVec Ideal S256x1024 .f32} {f : Fin 256 → Fin 1024 → ℝ} (hy : ∀ r c, y (ix2 r c) = ((sig (f r c) : ℝ) : EReal)) (r : Fin 256) (h : Fin 16) :
    k0_pay2 own y (ix3 0 r h) = ((gate (f r) h : ℝ) : EReal) :=
  mean hy r h

/-- The convolution and silu over the block with its eight earlier rows: row `n` of `ext` is `e n`. -/
theorem conv_hi {ext : FVec Ideal S264x1024 .f32} {e : Fin 264 → Fin 1024 → ℝ} {c0 c1 c2 c3 bb : FVec Ideal S1x1024 .f32}
    {w0 w1 w2 w3 : Fin 1024 → ℝ} (he : ∀ n c, ext (ix2 n c) = ((e n c : ℝ) : EReal))
    (h0 : ∀ c, c0 (ix2 0 c) = ((w0 c : ℝ) : EReal)) (h1 : ∀ c, c1 (ix2 0 c) = ((w1 c : ℝ) : EReal))
    (h2 : ∀ c, c2 (ix2 0 c) = ((w2 c : ℝ) : EReal)) (h3 : ∀ c, c3 (ix2 0 c) = ((w3 c : ℝ) : EReal))
    (hb : ∀ c, bb (ix2 0 c) = ((B c : ℝ) : EReal)) (r : Fin 256) (c : Fin 1024) :
    k0_pay4 ext c0 c1 c2 c3 bb (ix2 r c)
      = (((w0 c * e ⟨8 + r, by omega⟩ c + w1 c * e ⟨7 + r, by omega⟩ c + w2 c * e ⟨6 + r, by omega⟩ c + w3 c * e ⟨5 + r, by omega⟩ c + B c)
        * sig (w0 c * e ⟨8 + r, by omega⟩ c + w1 c * e ⟨7 + r, by omega⟩ c + w2 c * e ⟨6 + r, by omega⟩ c + w3 c * e ⟨5 + r, by omega⟩ c + B c) : ℝ) : EReal) := by
  pointwise [k0_pay4]
  simp only [he, h0, h1, h2, h3, hb, ← EReal.coe_mul, ← EReal.coe_add, logistic_coe]

/-- The activations' low half vanishes. -/
theorem conv_lo {ext : FVec Ideal S264x1024 .f32} {c0 c1 c2 c3 bb : FVec Ideal S1x1024 .f32} {f : Fin 256 → Fin 1024 → ℝ}
    (h : ∀ r c, k0_pay4 ext c0 c1 c2 c3 bb (ix2 r c) = ((f r c : ℝ) : EReal)) (r : Fin 256) (c : Fin 1024) :
    k0_pay6 ext c0 c1 c2 c3 bb (ix2 r c) = ((0 : ℝ) : EReal) := by
  pointwise [k0_pay6, k0_pay5]
  rw [h, ← EReal.coe_sub, sub_self]

/-- The kernel's choice by the grid's last coordinate. -/
theorem select_first (n : Fin 8) (x y : EReal) :
    Scalar.select (Scalar.cmpi CmpIPredicate.eq (BitVec.ofNat 32 n.val) 0#32) x y = if n.val = 0 then x else y := by
  fin_cases n <;> rfl

/-- The block's input projection under its eight earlier rows, which are zero at the first block of a sequence. -/
theorem ext_eq {i : grid0.Coords} {x : FVec Ideal S1x256x1024 .f32} {xh : FVec Ideal S1x1x8x1024 .f32} {w w' : FVec Ideal S1024x1024 .bf16}
    {X : Fin 256 → Fin 1024 → ℝ} {Xh : Fin 8 → Fin 1024 → ℝ}
    (hx : ∀ r c, x (ix3 0 r c) = ((X r c : ℝ) : EReal)) (hxh : ∀ r c, xh (ix4 0 0 r c) = ((Xh r c : ℝ) : EReal))
    (hw : ∀ k c, w (ix2 k c) = ((W c k : ℝ) : EReal)) (hw' : ∀ k c, w' (ix2 k c) = ((0 : ℝ) : EReal)) (n : Fin 264) (c : Fin 1024) :
    k0_pay3 (F := Ideal) i x w w' xh w w' (ix2 n c)
      = ((if h : (n : ℕ) < 8 then (if (i 2).val = 0 then 0 else ∑ k, Xh ⟨n, h⟩ k * W c k) else ∑ k, X ⟨n - 8, by omega⟩ k * W c k : ℝ) : EReal) := by
  pointwise [k0_pay3]
  have hs : ∀ y z : EReal, Scalar.select (Scalar.cmpi CmpIPredicate.eq (BitVec.ofNat 32 (i 2).val) 0#32) y z =
      if (i 2).val = 0 then y else z := fun y z => select_first (i 2) y z
  simp only [hs]
  simp only [hx, hxh, hw, hw', ← EReal.coe_mul, ← EReal.coe_sub, sub_self, coe_sum, ← EReal.coe_add, mul_zero, zero_mul, Finset.sum_const_zero, add_zero]
  split
  · split <;> simp only [EReal.coe_zero]
  · rfl

end Cert.KernP

end
-- ==== Proof.PointP.lean ====
/- One grid point of the projection kernel: the five output blocks as functions of the input blocks. -/
module
public import proofs.«01_k».proof.Proof.KernP
public import Idealize.ShloMosaic.Lib.Pipeline.ValueKit
public import Idealize.ShloMosaic.Lib.Pointwise
@[expose] public section
noncomputable section
namespace Cert.PointP
open Cert.ProjIdeal Cert.ProjIdeal.Gen Idealize.ShloMosaic Cert.Lift Cert.Spec

/-- The eleven arguments as real functions. -/
structure Params where
  X : Fin 8 → Fin 2048 → Fin 1024 → ℝ
  Wi : Fin 1024 → Fin 1024 → ℝ
  cw : Fin 1024 → Fin 4 → ℝ
  cb : Fin 1024 → ℝ
  Wq : Fin 1024 → Fin 1024 → ℝ
  Wk : Fin 1024 → Fin 1024 → ℝ
  Wv : Fin 1024 → Fin 1024 → ℝ
  Wa : Fin 1024 → Fin 1024 → ℝ
  Ba : Fin 1024 → ℝ
  Wb : Fin 1024 → Fin 1024 → ℝ
  Bb : Fin 1024 → ℝ

/-- A row of activations. -/
abbrev Params.row (p : Params) (b : Fin 8) (t : Fin 2048) : Fin 1024 → ℝ := act p.X p.Wi p.cw p.cb b t

/-- The input blocks of block `j` of sequence `b`. -/
structure Blocks (p : Params) (b : Fin 8) (j : Fin 8) (i : grid0.Coords) (x0 : Vec Ideal S1x256x1024 .f32) (x1 : Vec Ideal S1x1x8x1024 .f32) (x2 : Vec Ideal S1024x1024 .bf16) (x3 : Vec Ideal S1024x1024 .bf16) (x4 : Vec Ideal S4x1024 .f32) (x5 : Vec Ideal S1x1024 .f32) (x6 : Vec Ideal S1024x1024 .bf16) (x7 : Vec Ideal S1024x1024 .bf16) (x8 : Vec Ideal S1024x1024 .bf16) (x9 : Vec Ideal S1024x1024 .bf16) (x10 : Vec Ideal S1024x1024 .bf16) (x11 : Vec Ideal S1024x1024 .bf16) (x12 : Vec Ideal S1024x1024 .bf16) (x13 : Vec Ideal S1024x1024 .bf16) (x14 : Vec Ideal S1x1024 .f32) (x15 : Vec Ideal S1024x1024 .bf16) (x16 : Vec Ideal S1024x1024 .bf16) (x17 : Vec Ideal S1x1024 .f32) : Prop where
  hi : (i 2).val = j.val
  h0 : ∀ r k, x0 (ix3 0 r k) = ((p.X b ⟨j.val * 256 + r.val, by omega⟩ k : ℝ) : EReal)
  h1 : ∀ r k, x1 (ix4 0 0 r k) = ((p.X b ⟨(j.val * 32 - 1) * 8 + r.val, by omega⟩ k : ℝ) : EReal)
  h2 : ∀ r k, x2 (ix2 r k) = ((p.Wi k r : ℝ) : EReal)
  h3 : ∀ r k, x3 (ix2 r k) = ((0 : ℝ) : EReal)
  h4 : ∀ n k, x4 (ix2 n k) = ((p.cw k n : ℝ) : EReal)
  h5 : ∀ k, x5 (ix2 0 k) = ((p.cb k : ℝ) : EReal)
  h6 : ∀ r k, x6 (ix2 r k) = ((p.Wq k r : ℝ) : EReal)
  h7 : ∀ r k, x7 (ix2 r k) = ((0 : ℝ) : EReal)
  h8 : ∀ r k, x8 (ix2 r k) = ((p.Wk k r : ℝ) : EReal)
  h9 : ∀ r k, x9 (ix2 r k) = ((0 : ℝ) : EReal)
  h10 : ∀ r k, x10 (ix2 r k) = ((p.Wv k r : ℝ) : EReal)
  h11 : ∀ r k, x11 (ix2 r k) = ((0 : ℝ) : EReal)
  h12 : ∀ r k, x12 (ix2 r k) = ((p.Wa k r : ℝ) : EReal)
  h13 : ∀ r k, x13 (ix2 r k) = ((0 : ℝ) : EReal)
  h14 : ∀ k, x14 (ix2 0 k) = ((p.Ba k : ℝ) : EReal)
  h15 : ∀ r k, x15 (ix2 r k) = ((p.Wb k r : ℝ) : EReal)
  h16 : ∀ r k, x16 (ix2 r k) = ((0 : ℝ) : EReal)
  h17 : ∀ k, x17 (ix2 0 k) = ((p.Bb k : ℝ) : EReal)

theorem whole {x : Vec Ideal S1024x1024 .bf16} {f : Fin 1024 → Fin 1024 → ℝ} (h : ∀ r k, x (ix2 r k) = ((f k r : ℝ) : EReal)) (r k : Fin 1024) :
    View.ld x r0_1 (ix2 r k) = ((f k r : ℝ) : EReal) := by
  refine Eq.trans ?_ (h r k)
  pointwise

theorem whole_zero {x : Vec Ideal S1024x1024 .bf16} (h : ∀ r k, x (ix2 r k) = ((0 : ℝ) : EReal)) (r k : Fin 1024) :
    View.ld x r0_1 (ix2 r k) = ((0 : ℝ) : EReal) :=
  whole (f := fun _ _ => 0) h r k

theorem whole_row {x : Vec Ideal S1x1024 .f32} {f : Fin 1024 → ℝ} (h : ∀ k, x (ix2 0 k) = ((f k : ℝ) : EReal)) (k : Fin 1024) :
    View.ld x r0_7 (ix2 0 k) = ((f k : ℝ) : EReal) := by
  refine Eq.trans ?_ (h k)
  pointwise

theorem narrow {ext : FVec Ideal S264x1024 .f32} {c0 c1 c2 c3 bb : FVec Ideal S1x1024 .f32} (r : Fin 256) (k : Fin 1024) :
    k0_pay5 ext c0 c1 c2 c3 bb (ix2 r k) = k0_pay4 ext c0 c1 c2 c3 bb (ix2 r k) := by
  pointwise [k0_pay5]

theorem canon_whole (P : Vec Ideal S1x256x16 .f32) (y : S1x256x16.Idx) : View.canon [⟨r0_24, P⟩] y = P y := by
  frame_out

variable {p : Params} {b : Fin 8} {j : Fin 8} {i : grid0.Coords} {x0 : Vec Ideal S1x256x1024 .f32} {x1 : Vec Ideal S1x1x8x1024 .f32} {x2 : Vec Ideal S1024x1024 .bf16} {x3 : Vec Ideal S1024x1024 .bf16} {x4 : Vec Ideal S4x1024 .f32} {x5 : Vec Ideal S1x1024 .f32} {x6 : Vec Ideal S1024x1024 .bf16} {x7 : Vec Ideal S1024x1024 .bf16} {x8 : Vec Ideal S1024x1024 .bf16} {x9 : Vec Ideal S1024x1024 .bf16} {x10 : Vec Ideal S1024x1024 .bf16} {x11 : Vec Ideal S1024x1024 .bf16} {x12 : Vec Ideal S1024x1024 .bf16} {x13 : Vec Ideal S1024x1024 .bf16} {x14 : Vec Ideal S1x1024 .f32} {x15 : Vec Ideal S1024x1024 .bf16} {x16 : Vec Ideal S1024x1024 .bf16} {x17 : Vec Ideal S1x1024 .f32}
    (H : Blocks p b j i x0 x1 x2 x3 x4 x5 x6 x7 x8 x9 x10 x11 x12 x13 x14 x15 x16 x17)
include H

/-- Row `5 + n` of the block under its halo is row `256 j + n` of the padded input projection. -/
theorem ext_row (n : Fin 264) (hn : 5 ≤ n.val) (k : Fin 1024) :
    k0_pay77 (F := Ideal) i x0 x1 x2 x3 x4 x5 x6 x7 x8 x9 x10 x11 x12 x13 x14 x15 x16 x17 (ix2 n k) = ((padded p.X p.Wi b (j.val * 256 + (n.val - 5)) k : ℝ) : EReal) := by
  unfold k0_pay77
  rw [KernP.ext_eq (W := p.Wi) (X := fun r k => p.X b ⟨j.val * 256 + r.val, by omega⟩ k)
    (Xh := fun r k => p.X b ⟨(j.val * 32 - 1) * 8 + r.val, by omega⟩ k)
    (fun r k => by refine Eq.trans ?_ (H.h0 r k); pointwise) (fun r k => by refine Eq.trans ?_ (H.h1 r k); pointwise)
    (whole H.h2) (whole_zero H.h3), H.hi]
  congr 1
  unfold padded proj
  split
  · next h8 =>
    split
    · next hj => rw [dif_neg (by omega)]
    · next hj =>
      rw [dif_pos (by omega)]
      refine Finset.sum_congr rfl fun k' _ => ?_
      congr 2
      ext; simp only; omega
  · next h8 =>
    rw [dif_pos (by omega)]
    refine Finset.sum_congr rfl fun k' _ => ?_
    congr 2
    ext; simp only; omega

/-- The same with 0 where a row is not used. -/
theorem ext_any : ∃ e : Fin 264 → Fin 1024 → ℝ, (∀ n k, k0_pay77 (F := Ideal) i x0 x1 x2 x3 x4 x5 x6 x7 x8 x9 x10 x11 x12 x13 x14 x15 x16 x17 (ix2 n k) = ((e n k : ℝ) : EReal))
    ∧ ∀ n k, 5 ≤ n.val → e n k = padded p.X p.Wi b (j.val * 256 + (n.val - 5)) k := by
  have hE := fun n k => (by
    unfold k0_pay77
    exact KernP.ext_eq (W := p.Wi) (X := fun r k => p.X b ⟨j.val * 256 + r.val, by omega⟩ k)
      (Xh := fun r k => p.X b ⟨(j.val * 32 - 1) * 8 + r.val, by omega⟩ k)
      (fun r k => by refine Eq.trans ?_ (H.h0 r k); pointwise) (fun r k => by refine Eq.trans ?_ (H.h1 r k); pointwise)
      (whole H.h2) (whole_zero H.h3) n k : k0_pay77 (F := Ideal) i x0 x1 x2 x3 x4 x5 x6 x7 x8 x9 x10 x11 x12 x13 x14 x15 x16 x17 (ix2 n k) = _)
  refine ⟨_, hE, fun n k hn => ?_⟩
  exact EReal.coe_injective ((hE n k).symm.trans (ext_row H n hn k))

theorem act_block (r : Fin 256) (k : Fin 1024) :
    k0_pay80 (F := Ideal) i x0 x1 x2 x3 x4 x5 x6 x7 x8 x9 x10 x11 x12 x13 x14 x15 x16 x17 (ix2 r k) = ((p.row b ⟨j.val * 256 + r.val, by omega⟩ k : ℝ) : EReal)
    ∧ k0_pay81 (F := Ideal) i x0 x1 x2 x3 x4 x5 x6 x7 x8 x9 x10 x11 x12 x13 x14 x15 x16 x17 (ix2 r k) = ((0 : ℝ) : EReal) := by
  obtain ⟨e, he, hp⟩ := ext_any H
  have hc := KernP.conv_hi (B := p.cb) (w0 := fun k => p.cw k 3) (w1 := fun k => p.cw k 2) (w2 := fun k => p.cw k 1) (w3 := fun k => p.cw k 0)
    (c0 := View.ld x4 r0_3) (c1 := View.ld x4 r0_4) (c2 := View.ld x4 r0_5) (c3 := View.ld x4 r0_6) (bb := View.ld x5 r0_7) he
    (fun k => by refine Eq.trans ?_ (H.h4 3 k); pointwise) (fun k => by refine Eq.trans ?_ (H.h4 2 k); pointwise)
    (fun k => by refine Eq.trans ?_ (H.h4 1 k); pointwise) (fun k => by refine Eq.trans ?_ (H.h4 0 k); pointwise) (whole_row H.h5)
  refine ⟨?_, by unfold k0_pay81; exact KernP.conv_lo hc r k⟩
  unfold k0_pay80
  refine (narrow r k).trans ((hc r k).trans ?_)
  · rw [hp _ _ (by simp only; omega), hp _ _ (by simp only; omega), hp _ _ (by simp only; omega), hp _ _ (by simp only; omega)]
    have e0 : j.val * 256 + (8 + r.val - 5) = 3 + (j.val * 256 + r.val) := by omega
    have e1 : j.val * 256 + (7 + r.val - 5) = 2 + (j.val * 256 + r.val) := by omega
    have e2 : j.val * 256 + (6 + r.val - 5) = 1 + (j.val * 256 + r.val) := by omega
    have e3 : j.val * 256 + (5 + r.val - 5) = j.val * 256 + r.val := by omega
    simp only [e0, e1, e2, e3, act, conv]
    congr 1
    have : ∀ x y : ℝ, x = y → x * sig x = y * sig y := fun x y h => by rw [h]
    exact this _ _ (by ring)

theorem hi_block (r : Fin 256) (k : Fin 1024) : k0_pay80 (F := Ideal) i x0 x1 x2 x3 x4 x5 x6 x7 x8 x9 x10 x11 x12 x13 x14 x15 x16 x17 (ix2 r k)
    = (((fun (r : Fin 256) => p.row b ⟨j.val * 256 + r.val, by omega⟩) r k : ℝ) : EReal) := (act_block H r k).1

theorem q_block (r : Fin 256) (k : Fin 1024) : k0_pay86 (F := Ideal) i x0 x1 x2 x3 x4 x5 x6 x7 x8 x9 x10 x11 x12 x13 x14 x15 x16 x17 (ix2 r k)
    = ((lin (p.row b ⟨j.val * 256 + r.val, by omega⟩) p.Wq k / nrm (lin (p.row b ⟨j.val * 256 + r.val, by omega⟩) p.Wq) (head k) : ℝ) : EReal) :=
  KernP.q_norm (hi_block H) (fun r k => (act_block H r k).2) (whole H.h6) (whole_zero H.h7) KernP.own_eq r k

theorem k_block (r : Fin 256) (k : Fin 1024) : k0_pay87 (F := Ideal) i x0 x1 x2 x3 x4 x5 x6 x7 x8 x9 x10 x11 x12 x13 x14 x15 x16 x17 (ix2 r k)
    = ((lin (p.row b ⟨j.val * 256 + r.val, by omega⟩) p.Wk k / nrm (lin (p.row b ⟨j.val * 256 + r.val, by omega⟩) p.Wk) (head k) : ℝ) : EReal) :=
  KernP.k_norm (hi_block H) (fun r k => (act_block H r k).2) (whole H.h8) (whole_zero H.h9) KernP.own_eq r k

theorem v_block (r : Fin 256) (k : Fin 1024) : k0_pay90 (F := Ideal) i x0 x1 x2 x3 x4 x5 x6 x7 x8 x9 x10 x11 x12 x13 x14 x15 x16 x17 (ix2 r k)
    = ((lin (p.row b ⟨j.val * 256 + r.val, by omega⟩) p.Wv k : ℝ) : EReal) :=
  KernP.v_lin (hi_block H) (fun r k => (act_block H r k).2) (whole H.h10) (whole_zero H.h11) r k

theorem out21 (r : Fin 256) (h : Fin 16) : out0_21 (F := Ideal) i x0 x1 x2 x3 x4 x5 x6 x7 x8 x9 x10 x11 x12 x13 x14 x15 x16 x17 (ix3 0 r h)
    = ((gate (fun c => lin (p.row b ⟨j.val * 256 + r.val, by omega⟩) p.Wa c + p.Ba c) h : ℝ) : EReal) := by
  unfold out0_21
  refine (canon_whole _ _).trans ?_
  exact KernP.mean (f := fun r c => lin (p.row b ⟨j.val * 256 + r.val, by omega⟩) p.Wa c + p.Ba c)
    (KernP.a_sig (hi_block H) (fun r k => (act_block H r k).2) (whole H.h12) (whole_zero H.h13) (whole_row H.h14)) r h

theorem out22 (r : Fin 256) (h : Fin 16) : out0_22 (F := Ideal) i x0 x1 x2 x3 x4 x5 x6 x7 x8 x9 x10 x11 x12 x13 x14 x15 x16 x17 (ix3 0 r h)
    = ((gate (fun c => lin (p.row b ⟨j.val * 256 + r.val, by omega⟩) p.Wb c + p.Bb c) h : ℝ) : EReal) := by
  unfold out0_22
  refine (canon_whole _ _).trans ?_
  exact KernP.mean' (f := fun r c => lin (p.row b ⟨j.val * 256 + r.val, by omega⟩) p.Wb c + p.Bb c)
    (KernP.b_sig (hi_block H) (fun r k => (act_block H r k).2) (whole H.h15) (whole_zero H.h16) (whole_row H.h17)) r h

omit H

/-! The sixteen heads' stores of a block hold the heads' columns of the one array they are cut from. -/

theorem out18 (y : S1x16x256x64.Idx) (r : Fin 256) (h : Fin 16) (d : Fin 64) (hh : (y 1 : ℕ) = h) (hr : (y 2 : ℕ) = r) (hd : (y 3 : ℕ) = d) :
    out0_18 (F := Ideal) i x0 x1 x2 x3 x4 x5 x6 x7 x8 x9 x10 x11 x12 x13 x14 x15 x16 x17 y = k0_pay86 (F := Ideal) i x0 x1 x2 x3 x4 x5 x6 x7 x8 x9 x10 x11 x12 x13 x14 x15 x16 x17 (ix2 r (col h d)) := by
  unfold out0_18
  generalize k0_pay86 (F := Ideal) i x0 x1 x2 x3 x4 x5 x6 x7 x8 x9 x10 x11 x12 x13 x14 x15 x16 x17 = T
  canon_tiles x h
  all_goals (open_payloads; pointwise; simp only [col]; blk_ext)

theorem out19 (y : S1x16x256x64.Idx) (r : Fin 256) (h : Fin 16) (d : Fin 64) (hh : (y 1 : ℕ) = h) (hr : (y 2 : ℕ) = r) (hd : (y 3 : ℕ) = d) :
    out0_19 (F := Ideal) i x0 x1 x2 x3 x4 x5 x6 x7 x8 x9 x10 x11 x12 x13 x14 x15 x16 x17 y = k0_pay87 (F := Ideal) i x0 x1 x2 x3 x4 x5 x6 x7 x8 x9 x10 x11 x12 x13 x14 x15 x16 x17 (ix2 r (col h d)) := by
  unfold out0_19
  generalize k0_pay87 (F := Ideal) i x0 x1 x2 x3 x4 x5 x6 x7 x8 x9 x10 x11 x12 x13 x14 x15 x16 x17 = T
  canon_tiles x h
  all_goals (open_payloads; pointwise; simp only [col]; blk_ext)

theorem out20 (y : S1x16x256x64.Idx) (r : Fin 256) (h : Fin 16) (d : Fin 64) (hh : (y 1 : ℕ) = h) (hr : (y 2 : ℕ) = r) (hd : (y 3 : ℕ) = d) :
    out0_20 (F := Ideal) i x0 x1 x2 x3 x4 x5 x6 x7 x8 x9 x10 x11 x12 x13 x14 x15 x16 x17 y = k0_pay90 (F := Ideal) i x0 x1 x2 x3 x4 x5 x6 x7 x8 x9 x10 x11 x12 x13 x14 x15 x16 x17 (ix2 r (col h d)) := by
  unfold out0_20
  rw [show k0_pay22 (k0_pay80 (F := Ideal) i x0 x1 x2 x3 x4 x5 x6 x7 x8 x9 x10 x11 x12 x13 x14 x15 x16 x17) (k0_pay88 (F := Ideal) i x0 x1 x2 x3 x4 x5 x6 x7 x8 x9 x10 x11 x12 x13 x14 x15 x16 x17) (k0_pay89 (F := Ideal) i x0 x1 x2 x3 x4 x5 x6 x7 x8 x9 x10 x11 x12 x13 x14 x15 x16 x17)
      (k0_pay85 (F := Ideal) i x0 x1 x2 x3 x4 x5 x6 x7 x8 x9 x10 x11 x12 x13 x14 x15 x16 x17) = k0_pay21 (k0_pay90 (F := Ideal) i x0 x1 x2 x3 x4 x5 x6 x7 x8 x9 x10 x11 x12 x13 x14 x15 x16 x17) from rfl,
    show k0_pay25 (k0_pay80 (F := Ideal) i x0 x1 x2 x3 x4 x5 x6 x7 x8 x9 x10 x11 x12 x13 x14 x15 x16 x17) (k0_pay88 (F := Ideal) i x0 x1 x2 x3 x4 x5 x6 x7 x8 x9 x10 x11 x12 x13 x14 x15 x16 x17) (k0_pay89 (F := Ideal) i x0 x1 x2 x3 x4 x5 x6 x7 x8 x9 x10 x11 x12 x13 x14 x15 x16 x17)
      (k0_pay85 (F := Ideal) i x0 x1 x2 x3 x4 x5 x6 x7 x8 x9 x10 x11 x12 x13 x14 x15 x16 x17) = k0_pay24 (k0_pay90 (F := Ideal) i x0 x1 x2 x3 x4 x5 x6 x7 x8 x9 x10 x11 x12 x13 x14 x15 x16 x17) from rfl]
  generalize k0_pay90 (F := Ideal) i x0 x1 x2 x3 x4 x5 x6 x7 x8 x9 x10 x11 x12 x13 x14 x15 x16 x17 = T
  canon_tiles x h
  all_goals (open_payloads; pointwise; simp only [col]; blk_ext)

end Cert.PointP
end
-- ==== Proof.FinP.lean ====
/- The projection kernel's five final arrays as functions of the arguments. -/
module
public import proofs.«01_k».proof.Proof.BlkP
public import proofs.«01_k».proof.Proof.PointP
@[expose] public section
noncomputable section
namespace Cert.FinP
open Cert.ProjIdeal Cert.ProjIdeal.Gen Idealize.ShloMosaic Idealize.ShloMosaic.TcCoe Cert.Lift Cert.Spec Cert.PointP

variable (m : (ℓ : Loc nD τ sig) → Buf (Elt Ideal) ℓ) (c : Dev nD) (p : Params)

/-- The arguments hold the real functions `p`. -/
structure Holds : Prop where
  h0 : ∀ b t k, m ((c : Thread nD τ).loc main_arg0) (ix3 b t k) = ((p.X b t k : ℝ) : EReal)
  h1 : ∀ r k, m ((c : Thread nD τ).loc main_arg1) (ix2 r k) = ((p.Wi r k : ℝ) : EReal)
  h2 : ∀ r n, m ((c : Thread nD τ).loc main_arg2) (ix3 r 0 n) = ((p.cw r n : ℝ) : EReal)
  h3 : ∀ r, m ((c : Thread nD τ).loc main_arg3) (ix1 r) = ((p.cb r : ℝ) : EReal)
  h4 : ∀ r k, m ((c : Thread nD τ).loc main_arg4) (ix2 r k) = ((p.Wq r k : ℝ) : EReal)
  h5 : ∀ r k, m ((c : Thread nD τ).loc main_arg5) (ix2 r k) = ((p.Wk r k : ℝ) : EReal)
  h6 : ∀ r k, m ((c : Thread nD τ).loc main_arg6) (ix2 r k) = ((p.Wv r k : ℝ) : EReal)
  h7 : ∀ r k, m ((c : Thread nD τ).loc main_arg7) (ix2 r k) = ((p.Wa r k : ℝ) : EReal)
  h8 : ∀ r, m ((c : Thread nD τ).loc main_arg8) (ix1 r) = ((p.Ba r : ℝ) : EReal)
  h9 : ∀ r k, m ((c : Thread nD τ).loc main_arg9) (ix2 r k) = ((p.Wb r k : ℝ) : EReal)
  h10 : ∀ r, m ((c : Thread nD τ).loc main_arg10) (ix1 r) = ((p.Bb r : ℝ) : EReal)

variable {m c p} (H : Holds m c p)
include H

/-- The blocks of every grid point are the arguments' blocks. -/
theorem blocks (t : Fin cfg0.N) : Blocks p ⟨t.val / 8, BlkP.lt8 t⟩ ⟨t.val % 8, by omega⟩ (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) where
  hi := BlkP.coord2 t
  h0 r k := (BlkP.blk0 m c t r k).trans (H.h0 _ _ _)
  h1 r k := (BlkP.blk1 m c t r k).trans (H.h0 _ _ _)
  h2 r k := (BlkP.blk2 m c t r k).trans (H.h1 _ _)
  h3 r k := BlkP.blk3 m c t r k (H.h1 _ _)
  h4 n k := (BlkP.blk4 m c t n k).trans (H.h2 _ _)
  h5 k := (BlkP.blk5 m c t k).trans (H.h3 _)
  h6 r k := (BlkP.blk6 m c t r k).trans (H.h4 _ _)
  h7 r k := BlkP.blk7 m c t r k (H.h4 _ _)
  h8 r k := (BlkP.blk8 m c t r k).trans (H.h5 _ _)
  h9 r k := BlkP.blk9 m c t r k (H.h5 _ _)
  h10 r k := (BlkP.blk10 m c t r k).trans (H.h6 _ _)
  h11 r k := BlkP.blk11 m c t r k (H.h6 _ _)
  h12 r k := (BlkP.blk12 m c t r k).trans (H.h7 _ _)
  h13 r k := BlkP.blk13 m c t r k (H.h7 _ _)
  h14 k := (BlkP.blk14 m c t k).trans (H.h8 _)
  h15 r k := (BlkP.blk15 m c t r k).trans (H.h9 _ _)
  h16 r k := BlkP.blk16 m c t r k (H.h9 _ _)
  h17 k := (BlkP.blk17 m c t k).trans (H.h10 _)

omit H in
theorem oidx : ∀ t : Fin cfg0.N, win0_18.index t = ![t.val / 8, 0, t.val % 8, 0] ∧ win0_19.index t = ![t.val / 8, 0, t.val % 8, 0]
    ∧ win0_20.index t = ![t.val / 8, 0, t.val % 8, 0] ∧ win0_21.index t = ![t.val / 8, t.val % 8, 0] ∧ win0_22.index t = ![t.val / 8, t.val % 8, 0] :=
  (by decide +kernel : ∀ t : Fin grid0.N, _)

/-- The queries: a grid point's block, then the whole array. -/
theorem point18 {G : S8x16x2048x64.Idx → EReal} (hG : ∀ b h t d, G (ix4 b h t d) = ((lin (p.row b t) p.Wq (col h d) / nrm (lin (p.row b t) p.Wq) h : ℝ) : EReal))
    (t : Fin cfg0.N) (y : S1x16x256x64.Idx) (r : Fin 256) (h : Fin 16) (d : Fin 64) (hh : (y 1 : ℕ) = h) (hr : (y 2 : ℕ) = r) (hd : (y 3 : ℕ) = d) :
    out0_18 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y
      = G (ix4 ⟨t.val / 8, BlkP.lt8 t⟩ h ⟨t.val % 8 * 256 + r, by omega⟩ d) := by
  rw [out18 y r h d hh hr hd, q_block (blocks H t) r (col h d), hG, head_col]

theorem final18 (G : S8x16x2048x64.Idx → EReal) (hG : ∀ b h t d, G (ix4 b h t d) = ((lin (p.row b t) p.Wq (col h d) / nrm (lin (p.row b t) p.Wq) h : ℝ) : EReal)) :
    (dats m 0 c).arrAt 18 cfg0.N = G := by
  refine (dats m 0 c).arrAt_eq_of_covers 18 _ (by decide +kernel) fun t hf y => ?_
  blk_simp
  rw [after0_18]
  refine (point18 H hG t y (y 2) (y 1) (y 3) rfl rfl rfl).trans (congrArg G ?_)
  blk_ext [oidx t]

/-- The keys: a grid point's block, then the whole array. -/
theorem point19 {G : S8x16x2048x64.Idx → EReal} (hG : ∀ b h t d, G (ix4 b h t d) = ((lin (p.row b t) p.Wk (col h d) / nrm (lin (p.row b t) p.Wk) h : ℝ) : EReal))
    (t : Fin cfg0.N) (y : S1x16x256x64.Idx) (r : Fin 256) (h : Fin 16) (d : Fin 64) (hh : (y 1 : ℕ) = h) (hr : (y 2 : ℕ) = r) (hd : (y 3 : ℕ) = d) :
    out0_19 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y
      = G (ix4 ⟨t.val / 8, BlkP.lt8 t⟩ h ⟨t.val % 8 * 256 + r, by omega⟩ d) := by
  rw [out19 y r h d hh hr hd, k_block (blocks H t) r (col h d), hG, head_col]

theorem final19 (G : S8x16x2048x64.Idx → EReal) (hG : ∀ b h t d, G (ix4 b h t d) = ((lin (p.row b t) p.Wk (col h d) / nrm (lin (p.row b t) p.Wk) h : ℝ) : EReal)) :
    (dats m 0 c).arrAt 19 cfg0.N = G := by
  refine (dats m 0 c).arrAt_eq_of_covers 19 _ (by decide +kernel) fun t hf y => ?_
  blk_simp
  rw [after0_19]
  refine (point19 H hG t y (y 2) (y 1) (y 3) rfl rfl rfl).trans (congrArg G ?_)
  blk_ext [oidx t]

/-- The values: a grid point's block, then the whole array. -/
theorem point20 {G : S8x16x2048x64.Idx → EReal} (hG : ∀ b h t d, G (ix4 b h t d) = ((lin (p.row b t) p.Wv (col h d) : ℝ) : EReal))
    (t : Fin cfg0.N) (y : S1x16x256x64.Idx) (r : Fin 256) (h : Fin 16) (d : Fin 64) (hh : (y 1 : ℕ) = h) (hr : (y 2 : ℕ) = r) (hd : (y 3 : ℕ) = d) :
    out0_20 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y
      = G (ix4 ⟨t.val / 8, BlkP.lt8 t⟩ h ⟨t.val % 8 * 256 + r, by omega⟩ d) := by
  rw [out20 y r h d hh hr hd, v_block (blocks H t) r (col h d), hG]

theorem final20 (G : S8x16x2048x64.Idx → EReal) (hG : ∀ b h t d, G (ix4 b h t d) = ((lin (p.row b t) p.Wv (col h d) : ℝ) : EReal)) :
    (dats m 0 c).arrAt 20 cfg0.N = G := by
  refine (dats m 0 c).arrAt_eq_of_covers 20 _ (by decide +kernel) fun t hf y => ?_
  blk_simp
  rw [after0_20]
  refine (point20 H hG t y (y 2) (y 1) (y 3) rfl rfl rfl).trans (congrArg G ?_)
  blk_ext [oidx t]

/-- The decay gates: a grid point's block, then the whole array. -/
theorem point21 {G : S8x2048x16.Idx → EReal} (hG : ∀ b t h, G (ix3 b t h) = ((gate (fun r => lin (p.row b t) p.Wa r + p.Ba r) h : ℝ) : EReal))
    (t : Fin cfg0.N) (y : S1x256x16.Idx) (r : Fin 256) (h : Fin 16) (hy : y = ix3 0 r h) :
    out0_21 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y
      = G (ix3 ⟨t.val / 8, BlkP.lt8 t⟩ ⟨t.val % 8 * 256 + r, by omega⟩ h) := by
  rw [hy, out21 (blocks H t) r h, hG]

theorem final21 (G : S8x2048x16.Idx → EReal) (hG : ∀ b t h, G (ix3 b t h) = ((gate (fun r => lin (p.row b t) p.Wa r + p.Ba r) h : ℝ) : EReal)) :
    (dats m 0 c).arrAt 21 cfg0.N = G := by
  refine (dats m 0 c).arrAt_eq_of_covers 21 _ (by decide +kernel) fun t hf y => ?_
  blk_simp
  rw [after0_21]
  refine (point21 H hG t y (y 1) (y 2) (by blk_ext)).trans (congrArg G ?_)
  blk_ext [oidx t]

/-- The write gates: a grid point's block, then the whole array. -/
theorem point22 {G : S8x2048x16.Idx → EReal} (hG : ∀ b t h, G (ix3 b t h) = ((gate (fun r => lin (p.row b t) p.Wb r + p.Bb r) h : ℝ) : EReal))
    (t : Fin cfg0.N) (y : S1x256x16.Idx) (r : Fin 256) (h : Fin 16) (hy : y = ix3 0 r h) :
    out0_22 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) y
      = G (ix3 ⟨t.val / 8, BlkP.lt8 t⟩ ⟨t.val % 8 * 256 + r, by omega⟩ h) := by
  rw [hy, out22 (blocks H t) r h, hG]

theorem final22 (G : S8x2048x16.Idx → EReal) (hG : ∀ b t h, G (ix3 b t h) = ((gate (fun r => lin (p.row b t) p.Wb r + p.Bb r) h : ℝ) : EReal)) :
    (dats m 0 c).arrAt 22 cfg0.N = G := by
  refine (dats m 0 c).arrAt_eq_of_covers 22 _ (by decide +kernel) fun t hf y => ?_
  blk_simp
  rw [after0_22]
  refine (point22 H hG t y (y 1) (y 2) (by blk_ext)).trans (congrArg G ?_)
  blk_ext [oidx t]

end Cert.FinP
end
-- ==== Proof.PreP.lean ====
/- What the precondition says of the projection call's arguments: every element is a real number. -/
module
public import proofs.«01_k».proof.Pre_proj_inputs
public import proofs.«01_k».proof.Proof.Gen.Pre_proj_inputs
public import proofs.«01_k».proof.Proof.Lift
@[expose] public section
noncomputable section
namespace Cert.Pre_proj_inputs
open Idealize.ShloMosaic Cert.Pre_proj_inputs.Gen

instance : Subsingleton S_.Idx := ⟨fun _ _ => funext fun k => k.elim0⟩

/-- Every element of an array is a real number. -/
abbrev Real {s : Shape} (x : (⟨s, .f32⟩ : BufTy).Contents (Elt Ideal)) : Prop := ∃ f : s.Idx → ℝ, ∀ i, x i = ((f i : ℝ) : EReal)

theorem real_of_pre {x0 : (⟨S8x2048x1024, .f32⟩ : BufTy).Contents (Elt Ideal)} {x1 : (⟨S1024x1024, .f32⟩ : BufTy).Contents (Elt Ideal)} {x2 : (⟨S1024x1x4, .f32⟩ : BufTy).Contents (Elt Ideal)} {x3 : (⟨S1024, .f32⟩ : BufTy).Contents (Elt Ideal)} {x4 : (⟨S1024x1024, .f32⟩ : BufTy).Contents (Elt Ideal)} {x5 : (⟨S1024x1024, .f32⟩ : BufTy).Contents (Elt Ideal)} {x6 : (⟨S1024x1024, .f32⟩ : BufTy).Contents (Elt Ideal)} {x7 : (⟨S1024x1024, .f32⟩ : BufTy).Contents (Elt Ideal)} {x8 : (⟨S1024, .f32⟩ : BufTy).Contents (Elt Ideal)} {x9 : (⟨S1024x1024, .f32⟩ : BufTy).Contents (Elt Ideal)} {x10 : (⟨S1024, .f32⟩ : BufTy).Contents (Elt Ideal)}
    (h : fn (F := Ideal) x0 x1 x2 x3 x4 x5 x6 x7 x8 x9 x10 = fun _ => 1#1) : Real x0 ∧ Real x1 ∧ Real x2 ∧ Real x3 ∧ Real x4 ∧ Real x5 ∧ Real x6 ∧ Real x7 ∧ Real x8 ∧ Real x9 ∧ Real x10 := by
  have h := congrFun h ix0
  unfold fn fn_part1 fn_part2 fn_part3 at h
  dsimp only at h
  simp only [andi_apply, IntOp.andi_eq_one] at h
  obtain ⟨⟨⟨⟨⟨⟨⟨⟨⟨⟨⟨-, h0⟩, h1⟩, h2⟩, h3⟩, h4⟩, h5⟩, h6⟩, h7⟩, h8⟩, h9⟩, h10⟩ := h
  exact ⟨Cert.Lift.real_of_all _ _ _ _ _ _ _ h0, Cert.Lift.real_of_all _ _ _ _ _ _ _ h1, Cert.Lift.real_of_all _ _ _ _ _ _ _ h2, Cert.Lift.real_of_all _ _ _ _ _ _ _ h3, Cert.Lift.real_of_all _ _ _ _ _ _ _ h4, Cert.Lift.real_of_all _ _ _ _ _ _ _ h5, Cert.Lift.real_of_all _ _ _ _ _ _ _ h6, Cert.Lift.real_of_all _ _ _ _ _ _ _ h7, Cert.Lift.real_of_all _ _ _ _ _ _ _ h8, Cert.Lift.real_of_all _ _ _ _ _ _ _ h9, Cert.Lift.real_of_all _ _ _ _ _ _ _ h10⟩

end Cert.Pre_proj_inputs
end
-- ==== Proof.AlgP.lean ====
/- The projection call and its reference end with equal results. -/
module
public import proofs.«01_k».proof.Defs
public import proofs.«01_k».proof.Proof.Gen.ProjRefIdeal.Run
public import proofs.«01_k».proof.Proof.RefP
public import proofs.«01_k».proof.Proof.FinP
public import proofs.«01_k».proof.Proof.PreP
@[expose] public section
noncomputable section
namespace Cert.AlgP
open Cert.ProjIdeal Cert.ProjIdeal.Gen Idealize.ShloMosaic Idealize.ShloMosaic.TcCoe Idealize.SL.Sem Cert.PointP Cert.FinP

/-- Under the precondition the arguments hold real functions. -/
theorem holds {m : (ℓ : Loc nD τ sig) → Buf (Elt Ideal) ℓ} (h : Cert.Pre_ProjIdeal_proj_inputs m) (c : Dev nD) : ∃ p : Params, Holds m c p := by
  obtain ⟨⟨f0, h0⟩, ⟨f1, h1⟩, ⟨f2, h2⟩, ⟨f3, h3⟩, ⟨f4, h4⟩, ⟨f5, h5⟩, ⟨f6, h6⟩, ⟨f7, h7⟩, ⟨f8, h8⟩, ⟨f9, h9⟩, ⟨f10, h10⟩⟩ := Cert.Pre_proj_inputs.real_of_pre (h c)
  exact ⟨⟨fun b t k => f0 (ix3 b t k), fun r k => f1 (ix2 r k), fun r n => f2 (ix3 r 0 n), fun r => f3 (ix1 r), fun r k => f4 (ix2 r k), fun r k => f5 (ix2 r k), fun r k => f6 (ix2 r k), fun r k => f7 (ix2 r k), fun r => f8 (ix1 r), fun r k => f9 (ix2 r k), fun r => f10 (ix1 r)⟩, fun _ _ _ => h0 _, fun _ _ => h1 _, fun _ _ => h2 _, fun _ => h3 _, fun _ _ => h4 _, fun _ _ => h5 _, fun _ _ => h6 _, fun _ _ => h7 _, fun _ => h8 _, fun _ _ => h9 _, fun _ => h10 _⟩

section
variable {m : (ℓ : Loc nD τ sig) → Buf (Elt Ideal) ℓ} {c : Dev nD} {p : Params} (H : Holds m c p)
include H

/-! Each final array is the reference's array of the same arguments. -/

theorem array18 : (dats m 0 c).arrAt 18 cfg0.N = Cert.ProjRefIdeal.Read.val_main_v91 (m ((c : Thread nD τ).loc main_arg0)) (m ((c : Thread nD τ).loc main_arg1)) (m ((c : Thread nD τ).loc main_arg2)) (m ((c : Thread nD τ).loc main_arg3)) (m ((c : Thread nD τ).loc main_arg4)) :=
  final18 H _ (Cert.RefP.q_eq H.h0 H.h1 H.h2 H.h3 H.h4)

theorem array19 : (dats m 0 c).arrAt 19 cfg0.N = Cert.ProjRefIdeal.Read.val_main_v92 (m ((c : Thread nD τ).loc main_arg0)) (m ((c : Thread nD τ).loc main_arg1)) (m ((c : Thread nD τ).loc main_arg2)) (m ((c : Thread nD τ).loc main_arg3)) (m ((c : Thread nD τ).loc main_arg5)) :=
  final19 H _ (Cert.RefP.k_eq H.h0 H.h1 H.h2 H.h3 H.h5)

theorem array20 : (dats m 0 c).arrAt 20 cfg0.N = Cert.ProjRefIdeal.Read.val_main_v93 (m ((c : Thread nD τ).loc main_arg0)) (m ((c : Thread nD τ).loc main_arg1)) (m ((c : Thread nD τ).loc main_arg2)) (m ((c : Thread nD τ).loc main_arg3)) (m ((c : Thread nD τ).loc main_arg6)) :=
  final20 H _ (Cert.RefP.v_eq H.h0 H.h1 H.h2 H.h3 H.h6)

theorem array21 : (dats m 0 c).arrAt 21 cfg0.N = Cert.ProjRefIdeal.Read.val_main_v75 (m ((c : Thread nD τ).loc main_arg0)) (m ((c : Thread nD τ).loc main_arg1)) (m ((c : Thread nD τ).loc main_arg2)) (m ((c : Thread nD τ).loc main_arg3)) (m ((c : Thread nD τ).loc main_arg7)) (m ((c : Thread nD τ).loc main_arg8)) :=
  final21 H _ (Cert.RefP.alpha_eq H.h0 H.h1 H.h2 H.h3 H.h7 H.h8)

theorem array22 : (dats m 0 c).arrAt 22 cfg0.N = Cert.ProjRefIdeal.Read.val_main_v90 (m ((c : Thread nD τ).loc main_arg0)) (m ((c : Thread nD τ).loc main_arg1)) (m ((c : Thread nD τ).loc main_arg2)) (m ((c : Thread nD τ).loc main_arg3)) (m ((c : Thread nD τ).loc main_arg9)) (m ((c : Thread nD τ).loc main_arg10)) :=
  final22 H _ (Cert.RefP.beta_eq H.h0 H.h1 H.h2 H.h3 H.h9 H.h10)

end

theorem same5 {A B C D E Y : Type*} (f : A → B → C → D → E → Y) {a a' : A} {b b' : B} {c c' : C} {d d' : D} {e e' : E}
    (ha : a = a') (hb : b = b') (hc : c = c') (hd : d = d') (he : e = e') : f a b c d e = f a' b' c' d' e' := by
  subst ha hb hc hd he; rfl

theorem same6 {A B C D E G Y : Type*} (f : A → B → C → D → E → G → Y) {a a' : A} {b b' : B} {c c' : C} {d d' : D} {e e' : E} {g g' : G}
    (ha : a = a') (hb : b = b') (hc : c = c') (hd : d = d') (he : e = e') (hg : g = g') : f a b c d e g = f a' b' c' d' e' g' := by
  subst ha hb hc hd he hg; rfl

theorem algebraic : Cert.algebraic_ProjIdeal_ProjRefIdeal_pre_proj_inputs := by
  intro m g m' g' hpre hagree
  refine ⟨_, _, _, _, _, Cert.ProjIdeal.Value.run_blocks m g, ?_⟩
  refine (θ_run _ _ _).mono (fun r h c => ?_) (Cert.ProjRefIdeal.Value.run m' g')
  obtain ⟨r0, r1, r2, r3, r4, ha⟩ := h c
  obtain ⟨a0, a1, a2, a3, a4, a5, a6, a7, a8, a9, a10⟩ := hagree c
  obtain ⟨p, H⟩ := holds hpre c
  refine ⟨r0.trans ?_, r1.trans ?_, r2.trans ?_, r3.trans ?_, r4.trans ?_, ha⟩
  · exact (Cert.ProjRefIdeal.Read.val_main_v91_eq m' c).trans ((same5 (Cert.ProjRefIdeal.Read.val_main_v91 (F := Ideal)) a0 a1 a2 a3 a4).trans (array18 H).symm)
  · exact (Cert.ProjRefIdeal.Read.val_main_v92_eq m' c).trans ((same5 (Cert.ProjRefIdeal.Read.val_main_v92 (F := Ideal)) a0 a1 a2 a3 a5).trans (array19 H).symm)
  · exact (Cert.ProjRefIdeal.Read.val_main_v93_eq m' c).trans ((same5 (Cert.ProjRefIdeal.Read.val_main_v93 (F := Ideal)) a0 a1 a2 a3 a6).trans (array20 H).symm)
  · exact (Cert.ProjRefIdeal.Read.val_main_v75_eq m' c).trans ((same6 (Cert.ProjRefIdeal.Read.val_main_v75 (F := Ideal)) a0 a1 a2 a3 a7 a8).trans (array21 H).symm)
  · exact (Cert.ProjRefIdeal.Read.val_main_v90_eq m' c).trans ((same6 (Cert.ProjRefIdeal.Read.val_main_v90 (F := Ideal)) a0 a1 a2 a3 a9 a10).trans (array22 H).symm)

end Cert.AlgP
end
-- ==== Proof.ScanMath.lean ====
/- The recurrence of one head over the reals, and the chunk of 64 steps by which it can be advanced at once: with `u` the
   rank-one updates of the steps, the state after a step is the decayed start plus the decayed updates, and the updates
   solve a unit lower triangular system, which the doubling iteration solves since its strict part is nilpotent. -/
module

public import Idealize.ShloMosaic.Lib.Pointwise
public import Mathlib.Data.Matrix.Mul
public import Mathlib.Analysis.SpecialFunctions.Log.Basic
public import Mathlib.Tactic.NoncommRing
public import Mathlib.Tactic.FieldSimp

@[expose] public section

noncomputable section

namespace Cert.Scan

/-- A 64 x 64 matrix of reals. -/
abbrev M := Matrix (Fin 64) (Fin 64) ℝ

/-! ## The triangular system -/

theorem pow_lower {G : M} (h : ∀ i j, i ≤ j → G i j = 0) : ∀ (n : ℕ) (i j : Fin 64), (i : ℕ) < j + n → (G ^ n) i j = 0
  | 0, i, j, hij => by
    rw [pow_zero]
    exact Matrix.one_apply_ne (by rintro rfl; omega)
  | n + 1, i, j, hij => by
    rw [pow_succ, Matrix.mul_apply]
    refine Finset.sum_eq_zero fun r _ => ?_
    by_cases hr : r ≤ j
    · rw [h r j hr, mul_zero]
    · rw [pow_lower h n i r (by omega), zero_mul]

/-- The doubling iteration: the first 64 terms of the series of `(1 + G)⁻¹ R`. -/
def double (G R : M) : M :=
  let U0 := R - G * R
  let G1 := G * G
  let U1 := U0 + G1 * U0
  let G2 := G1 * G1
  let U2 := U1 + G2 * U1
  let G3 := G2 * G2
  let U3 := U2 + G3 * U2
  let G4 := G3 * G3
  let U4 := U3 + G4 * U3
  let G5 := G4 * G4
  U4 + G5 * U4

theorem double_step {P U u : M} (h : U = u - P * u) : U + P * U = u - P * P * u := by
  rw [h]; noncomm_ring

/-- The iteration solves the system when `G` is strictly lower triangular. -/
theorem double_eq {G R u : M} (h : ∀ i j, i ≤ j → G i j = 0) (hu : u + G * u = R) : double G R = u := by
  have h0 : R - G * R = u - G * G * u := by rw [← hu]; noncomm_ring
  have e := double_step (double_step (double_step (double_step (double_step h0))))
  have h64 : G * G * (G * G) * (G * G * (G * G)) * (G * G * (G * G) * (G * G * (G * G))) *
      (G * G * (G * G) * (G * G * (G * G)) * (G * G * (G * G) * (G * G * (G * G)))) *
      (G * G * (G * G) * (G * G * (G * G)) * (G * G * (G * G) * (G * G * (G * G))) *
      (G * G * (G * G) * (G * G * (G * G)) * (G * G * (G * G) * (G * G * (G * G))))) = G ^ 64 := by
    simp only [← pow_two, ← pow_mul]; norm_num
  rw [h64] at e
  refine e.trans ?_
  rw [show G ^ 64 = 0 from Matrix.ext fun i j => pow_lower h 64 i j (by omega), zero_mul, sub_zero]

/-! ## The recurrence -/

/-- One head's sequences. -/
structure Seq where
  (q k v : ℕ → Fin 64 → ℝ) (a b : ℕ → ℝ)

/-- The sequences from step `n` on. -/
def Seq.drop (H : Seq) (n : ℕ) : Seq :=
  ⟨fun t => H.q (n + t), fun t => H.k (n + t), fun t => H.v (n + t), fun t => H.a (n + t), fun t => H.b (n + t)⟩

/-- One step: decay, erase along the key, write. -/
def Seq.step (H : Seq) (t : ℕ) (S : M) : M := fun d e =>
  H.a t * (S d e - H.b t * ((∑ f, S d f * H.k t f) * H.k t e)) + H.b t * (H.v t d * H.k t e)

/-- The state before step `n`, from `S`. -/
def Seq.state (H : Seq) (S : M) : ℕ → M
  | 0 => S
  | n + 1 => H.step n (H.state S n)

/-- What step `t` puts out. -/
def Seq.out (H : Seq) (S : M) (t : ℕ) (d : Fin 64) : ℝ := ∑ e, H.state S (t + 1) d e * H.q t e

theorem Seq.state_add (H : Seq) (S : M) (n : ℕ) : ∀ t, H.state S (n + t) = (H.drop n).state (H.state S n) t
  | 0 => rfl
  | t + 1 => by
    show H.step (n + t) (H.state S (n + t)) = (H.drop n).step t _
    rw [H.state_add S n t]; rfl

theorem Seq.out_add (H : Seq) (S : M) (n t : ℕ) (d : Fin 64) : H.out S (n + t) d = (H.drop n).out (H.state S n) t d := by
  show ∑ e, H.state S (n + (t + 1)) d e * _ = _
  rw [H.state_add S n (t + 1)]; rfl

/-- The product of the first `n` decays. -/
def Seq.decay (H : Seq) (n : ℕ) : ℝ := ∏ r ∈ Finset.range n, H.a r

theorem Seq.decay_succ (H : Seq) (n : ℕ) : H.decay (n + 1) = H.a n * H.decay n := by
  rw [Seq.decay, Finset.prod_range_succ, mul_comm]; rfl

/-- The update step `t` makes along its key. -/
def Seq.upd (H : Seq) (S : M) (t : ℕ) (d : Fin 64) : ℝ := H.b t * (H.v t d - H.a t * ∑ f, H.state S t d f * H.k t f)

/-- The updates of 64 steps. -/
def Seq.upds (H : Seq) (S : M) : M := fun t d => H.upd S t d

/-- The state as the decayed start and the decayed updates. -/
theorem Seq.state_eq (H : Seq) (S : M) (ha : ∀ n, H.decay n ≠ 0) (d e : Fin 64) : ∀ n,
    H.state S n d e = H.decay n * S d e + ∑ s ∈ Finset.range n, H.decay n / H.decay (s + 1) * (H.upd S s d * H.k s e)
  | 0 => by simp [Seq.state, Seq.decay]
  | n + 1 => by
    have e1 : H.state S (n + 1) d e = H.a n * H.state S n d e + H.upd S n d * H.k n e := by
      simp only [Seq.state, Seq.step, Seq.upd]; ring
    rw [e1, H.state_eq S ha d e n, Finset.sum_range_succ, div_self (ha _), H.decay_succ n, mul_add, Finset.mul_sum, one_mul]
    simp only [mul_div_assoc, mul_assoc, add_assoc]

/-- A sum against the state. -/
theorem Seq.state_dot (H : Seq) (S : M) (ha : ∀ n, H.decay n ≠ 0) (d : Fin 64) (n : ℕ) (w : Fin 64 → ℝ) :
    ∑ e, H.state S n d e * w e = H.decay n * (∑ e, S d e * w e)
      + ∑ s ∈ Finset.range n, H.decay n / H.decay (s + 1) * ((∑ e, H.k s e * w e) * H.upd S s d) := by
  simp only [H.state_eq S ha, add_mul, Finset.sum_add_distrib, Finset.mul_sum, Finset.sum_mul]
  rw [Finset.sum_comm (s := Finset.univ)]
  refine congrArg₂ _ (Finset.sum_congr rfl fun e _ => by ring) (Finset.sum_congr rfl fun s _ => Finset.sum_congr rfl fun e _ => by ring)

/-! ## A chunk of 64 steps -/

/-- The blocks of a chunk: queries, keys, values and transposed state by rows, logarithms of the decays' products, and write strengths. -/
structure Blk where
  (q k v z : M) (l b : Fin 64 → ℝ)

namespace Blk

variable (B : Blk)

def gram : M := fun t s => (if s < t then (B.k * B.k.transpose) t s * Real.exp (B.l t - B.l s) else 0) * B.b t
def attn : M := fun t s => if s ≤ t then (B.q * B.k.transpose) t s * Real.exp (B.l t - B.l s) else 0
def kdec : M := fun t e => B.k t e * Real.exp (B.l t)
def qdec : M := fun t e => B.q t e * Real.exp (B.l t)
def kend : M := fun e s => B.k.transpose e s * Real.exp (B.l 63 - B.l s)
def zend : M := fun e d => B.z e d * Real.exp (B.l 63)
def rhs : M := fun t d => (B.v t d - (B.kdec * B.z) t d) * B.b t
def sol : M := double B.gram B.rhs
def out : M := B.attn * B.sol + B.qdec * B.z
def next : M := B.zend + B.kend * B.sol

end Blk

theorem sum_lt (f : ℕ → ℝ) {t : ℕ} (ht : t ≤ 64) : ∑ s : Fin 64, (if (s : ℕ) < t then f s else 0) = ∑ s ∈ Finset.range t, f s := by
  rw [← Finset.sum_range (fun s => if s < t then f s else 0), ← Finset.sum_filter]
  refine Finset.sum_congr (Finset.ext fun s => ?_) fun _ _ => rfl
  simp only [Finset.mem_filter, Finset.mem_range]
  omega

/-- `B` holds the first 64 steps of `H`, from the state `S`. -/
structure Reads (B : Blk) (H : Seq) (S : M) : Prop where
  q : ∀ t d, B.q t d = H.q t d
  k : ∀ t d, B.k t d = H.k t d
  v : ∀ t d, B.v t d = H.v t d
  z : ∀ e d, B.z e d = S d e
  b : ∀ t, B.b t = H.b t
  l : ∀ t, Real.exp (B.l t) = H.decay (t + 1)
  ne : ∀ n, H.decay n ≠ 0

variable {B : Blk} {H : Seq} {S : M}

theorem Reads.ratio (h : Reads B H S) (t s : Fin 64) : Real.exp (B.l t - B.l s) = H.decay (t + 1) / H.decay (s + 1) := by
  rw [Real.exp_sub, h.l, h.l]

/-- The solution of the chunk's system: the updates of its steps. -/
theorem Reads.sol (h : Reads B H S) : B.sol = H.upds S := by
  refine double_eq (fun i j hij => ?_) (Matrix.ext fun t d => ?_)
  · rw [Blk.gram, if_neg (not_lt.2 hij), zero_mul]
  · have e1 : (B.gram * H.upds S) t d
        = H.b t * (H.a t * ∑ s ∈ Finset.range t, H.decay t / H.decay (s + 1) * ((∑ e, H.k s e * H.k t e) * H.upd S s d)) := by
      rw [← sum_lt _ t.isLt.le, Matrix.mul_apply, Finset.mul_sum, Finset.mul_sum]
      refine Finset.sum_congr rfl fun s _ => ?_
      by_cases hs : s < t
      · have hs' : (s : ℕ) < t := hs
        simp only [Blk.gram, Seq.upds, if_pos hs, if_pos hs', Matrix.mul_apply, Matrix.transpose_apply, h.k, h.b, h.ratio, H.decay_succ t]
        rw [Finset.sum_congr rfl fun e _ => mul_comm (H.k t e) (H.k s e)]
        ring
      · have hs' : ¬(s : ℕ) < t := hs
        simp only [Blk.gram, if_neg hs, if_neg hs', zero_mul, mul_zero]
    have e2 : B.rhs t d = H.b t * (H.v t d - H.a t * (H.decay t * ∑ e, S d e * H.k t e)) := by
      simp only [Blk.rhs, Blk.kdec, Matrix.mul_apply, h.k, h.v, h.z, h.b, h.l, H.decay_succ t]
      rw [Finset.mul_sum, Finset.mul_sum, mul_comm]
      refine congrArg _ (congrArg _ (Finset.sum_congr rfl fun e _ => by ring))
    rw [Matrix.add_apply, e1, e2, Seq.upds, Seq.upd, H.state_dot S h.ne]
    ring

/-- The chunk puts out what its steps do. -/
theorem Reads.out (h : Reads B H S) (t d : Fin 64) : B.out t d = H.out S t d := by
  rw [Seq.out, H.state_dot S h.ne, ← sum_lt _ (Nat.succ_le_of_lt t.isLt), Blk.out, h.sol, Matrix.add_apply, Matrix.mul_apply, Matrix.mul_apply, add_comm,
    Finset.mul_sum]
  refine congrArg₂ _ (Finset.sum_congr rfl fun e _ => ?_) (Finset.sum_congr rfl fun s _ => ?_)
  · rw [Blk.qdec, h.q, h.l, h.z]; ring
  · by_cases hs : s ≤ t
    · have hs' : (s : ℕ) < t + 1 := Nat.lt_succ_of_le hs
      simp only [Blk.attn, Seq.upds, if_pos hs, if_pos hs', Matrix.mul_apply, Matrix.transpose_apply, h.k, h.q, h.ratio]
      rw [Finset.sum_congr rfl fun e _ => mul_comm (H.q t e) (H.k s e)]
      ring
    · have hs' : ¬(s : ℕ) < t + 1 := fun h' => hs (Nat.le_of_lt_succ h')
      simp only [Blk.attn, if_neg hs, if_neg hs', zero_mul]

/-- The chunk leaves the state of its last step, transposed. -/
theorem Reads.next (h : Reads B H S) (e d : Fin 64) : B.next e d = H.state S 64 d e := by
  rw [H.state_eq S h.ne, Finset.sum_range, Blk.next, h.sol, Matrix.add_apply, Matrix.mul_apply]
  have e63 : Real.exp (B.l 63) = H.decay 64 := h.l 63
  refine congrArg₂ _ ?_ (Finset.sum_congr rfl fun s _ => ?_)
  · show B.z e d * Real.exp (B.l 63) = _
    rw [e63, h.z, mul_comm]
  · show B.k s e * Real.exp (B.l 63 - B.l s) * H.upd S s d = _
    rw [h.ratio, h.k]
    show H.k s e * (H.decay 64 / H.decay (s + 1)) * H.upd S s d = _
    ring

end Cert.Scan

end
-- ==== Proof.RefD.lean ====
/- The reference of the second call: its scan, step by step, holds the recurrence of every head, and its results are the
   last state and the outputs against the output projection. -/
module

public import proofs.«01_k».proof.Proof.Gen.DeltaRefIdeal.Run
public import proofs.«01_k».proof.Proof.Lift
public import proofs.«01_k».proof.Proof.ScanMath
public import Idealize.ShloMosaic.Lib.Claim
public import Idealize.ShloMosaic.Lib.Pointwise
public import Idealize.ShloMosaic.Lib.WordCmp

@[expose] public section

noncomputable section

namespace Cert.RefD

open Cert.DeltaRefIdeal Cert.DeltaRefIdeal.Gen Cert.DeltaRefIdeal.Value
open Idealize.ShloMosaic Idealize.ShloMosaic.TcCoe Idealize.SL.Sem Idealize.ShloMosaic.StableHlo
open Cert.Lift Cert.Scan

theorem start (n : ℕ) (hn : n < 2048) : (BitVec.ofNat 32 n).toInt = (n : ℤ) := by
  exact WordCmp.toInt_ofNat_of_lt (by omega)

variable {n : ℕ} (hn : n < 2048)

/-- The starts a slice of a four-axis array takes from a counter. -/
abbrev at4 (I : IVec S_ 32) : Fin 4 → Int :=
  fun k => ((![I, constantI S_ 32 0#32, constantI S_ 32 0#32, constantI S_ 32 0#32] : Fin 4 → IVec S_ 32) k (Shape.Idx.first h_S_)).toInt

/-- The starts a slice of a three-axis array takes from a counter. -/
abbrev at3 (I : IVec S_ 32) : Fin 3 → Int :=
  fun k => ((![I, constantI S_ 32 0#32, constantI S_ 32 0#32] : Fin 3 → IVec S_ 32) k (Shape.Idx.first h_S_)).toInt

include hn in
theorem c4 : Host.clampedStart S2048x8x16x64 S1x8x16x64 rfl (at4 fun _ => BitVec.ofNat 32 n) 0 = n :=
  Host.clampedStart_of_le (s := S2048x8x16x64) (t := S1x8x16x64) rfl _ 0 n (start n hn) (by show n + 1 ≤ 2048; omega)

theorem c4' (I : IVec S_ 32) : Host.clampedStart S2048x8x16x64 S1x8x16x64 rfl (at4 I) 1 = 0
    ∧ Host.clampedStart S2048x8x16x64 S1x8x16x64 rfl (at4 I) 2 = 0 ∧ Host.clampedStart S2048x8x16x64 S1x8x16x64 rfl (at4 I) 3 = 0 :=
  ⟨Host.clampedStart_of_le rfl _ 1 0 rfl (by decide), Host.clampedStart_of_le rfl _ 2 0 rfl (by decide), Host.clampedStart_of_le rfl _ 3 0 rfl (by decide)⟩

include hn in
theorem c3 : Host.clampedStart S2048x8x16 S1x8x16 rfl (at3 fun _ => BitVec.ofNat 32 n) 0 = n :=
  Host.clampedStart_of_le (s := S2048x8x16) (t := S1x8x16) rfl _ 0 n (start n hn) (by show n + 1 ≤ 2048; omega)

theorem c3' (I : IVec S_ 32) : Host.clampedStart S2048x8x16 S1x8x16 rfl (at3 I) 1 = 0 ∧ Host.clampedStart S2048x8x16 S1x8x16 rfl (at3 I) 2 = 0 :=
  ⟨Host.clampedStart_of_le rfl _ 1 0 rfl (by decide), Host.clampedStart_of_le rfl _ 2 0 rfl (by decide)⟩

/-- One time step of a four-axis array. -/
theorem slice4 (X : FVec Ideal S2048x8x16x64 .f32) (I : IVec S_ 32) (hI : I = fun _ => BitVec.ofNat 32 n) (b : Fin 8) (h : Fin 16) (d : Fin 64) :
    (shapeCast S8x16x64 (Host.dynamicSlice S1x8x16x64 X (at4 I) sliceFits_S2048x8x16x64_S1x8x16x64) shapeCasts_S1x8x16x64_S8x16x64 : FVec Ideal S8x16x64 .f32)
      (ix3 b h d) = X (ix4 ⟨n, hn⟩ b h d) := by
  subst hI
  pointwise
  simp only [c4 hn, c4', Nat.zero_add, Nat.add_zero]

/-- One time step of a three-axis array. -/
theorem slice3 (X : FVec Ideal S2048x8x16 .f32) (I : IVec S_ 32) (hI : I = fun _ => BitVec.ofNat 32 n) (b : Fin 8) (h : Fin 16) :
    (shapeCast S8x16 (Host.dynamicSlice S1x8x16 X (at3 I) sliceFits_S2048x8x16_S1x8x16) shapeCasts_S1x8x16_S8x16 : FVec Ideal S8x16 .f32)
      (ix2 b h) = X (ix3 ⟨n, hn⟩ b h) := by
  subst hI
  pointwise
  simp only [c3 hn, c3', Nat.zero_add, Nat.add_zero]

include hn in
/-- An array with one time step overwritten. -/
theorem update4 (X : FVec Ideal S2048x8x16x64 .f32) (Y : FVec Ideal S1x8x16x64 .f32) (I : IVec S_ 32) (hI : I = fun _ => BitVec.ofNat 32 n)
    (t : Fin 2048) (b : Fin 8) (h : Fin 16) (d : Fin 64) :
    (Host.dynamicUpdateSlice X Y (at4 I) updateFits_S2048x8x16x64_S1x8x16x64 : FVec Ideal S2048x8x16x64 .f32)
      (ix4 t b h d) = if (t : ℕ) = n then Y (ix4 0 b h d) else X (ix4 t b h d) := by
  subst hI
  have h4 := c4 hn
  obtain ⟨h1, h2, h3⟩ := c4' fun _ => BitVec.ofNat 32 n
  rw [Host.dynamicUpdateSlice_apply]
  by_cases e : (t : ℕ) = n
  · rw [if_pos e, dif_pos]
    · pointwise
      simp only [h4, h1, h2, h3, e, Nat.sub_self, Nat.sub_zero]
      rfl
    · intro a
      fin_cases a
      · refine ⟨?_, ?_⟩
        · show Host.clampedStart _ _ _ _ 0 ≤ (t : ℕ); rw [h4, e]
        · show (t : ℕ) < Host.clampedStart _ _ _ _ 0 + 1; rw [h4, e]; omega
      · refine ⟨?_, ?_⟩
        · show Host.clampedStart _ _ _ _ 1 ≤ (b : ℕ); rw [h1]; omega
        · show (b : ℕ) < Host.clampedStart _ _ _ _ 1 + 8; rw [h1]; omega
      · refine ⟨?_, ?_⟩
        · show Host.clampedStart _ _ _ _ 2 ≤ (h : ℕ); rw [h2]; omega
        · show (h : ℕ) < Host.clampedStart _ _ _ _ 2 + 16; rw [h2]; omega
      · refine ⟨?_, ?_⟩
        · show Host.clampedStart _ _ _ _ 3 ≤ (d : ℕ); rw [h3]; omega
        · show (d : ℕ) < Host.clampedStart _ _ _ _ 3 + 64; rw [h3]; omega
  · rw [if_neg e, dif_neg]
    intro hin
    obtain ⟨ha, hb⟩ := hin 0
    change Host.clampedStart _ _ _ _ 0 ≤ (t : ℕ) at ha
    change (t : ℕ) < Host.clampedStart _ _ _ _ 0 + 1 at hb
    rw [h4] at ha hb
    omega

variable (H : Fin 8 → Fin 16 → Seq)

/-- What the loop's buffers hold before step `n`. -/
structure Holds (n : ℕ) (V : Valuation τ sig (Elt Ideal)) : Prop where
  q : ∀ (t : Fin 2048) (b : Fin 8) (h : Fin 16) (d : Fin 64), (V (Proc.devRef .tc main_v7_0) : FVec Ideal S2048x8x16x64 .f32) (ix4 t b h d) = (((H b h).q t d : ℝ) : EReal)
  k : ∀ (t : Fin 2048) (b : Fin 8) (h : Fin 16) (d : Fin 64), (V (Proc.devRef .tc main_v7_1) : FVec Ideal S2048x8x16x64 .f32) (ix4 t b h d) = (((H b h).k t d : ℝ) : EReal)
  v : ∀ (t : Fin 2048) (b : Fin 8) (h : Fin 16) (d : Fin 64), (V (Proc.devRef .tc main_v7_2) : FVec Ideal S2048x8x16x64 .f32) (ix4 t b h d) = (((H b h).v t d : ℝ) : EReal)
  a : ∀ (t : Fin 2048) (b : Fin 8) (h : Fin 16), (V (Proc.devRef .tc main_v7_3) : FVec Ideal S2048x8x16 .f32) (ix3 t b h) = (((H b h).a t : ℝ) : EReal)
  b : ∀ (t : Fin 2048) (b : Fin 8) (h : Fin 16), (V (Proc.devRef .tc main_v7_4) : FVec Ideal S2048x8x16 .f32) (ix3 t b h) = (((H b h).b t : ℝ) : EReal)
  cnt : (V (Proc.devRef .tc main_v7_5) : IVec S_ 32) = fun _ => BitVec.ofNat 32 n
  S : ∀ (b : Fin 8) (h : Fin 16) (d e : Fin 64), (V (Proc.devRef .tc main_v7_6) : FVec Ideal S8x16x64x64 .f32) (ix4 b h d e) = (((H b h).state 0 n d e : ℝ) : EReal)
  o : ∀ (t : Fin 2048) (b : Fin 8) (h : Fin 16) (d : Fin 64), (t : ℕ) < n →
    (V (Proc.devRef .tc main_v7_7) : FVec Ideal S2048x8x16x64 .f32) (ix4 t b h d) = (((H b h).out 0 t d : ℝ) : EReal)

variable {H} {V : Valuation τ sig (Elt Ideal)} (hV : Holds H n V)
include hn hV

theorem key (b : Fin 8) (h : Fin 16) (d : Fin 64) : (res_main_while0b_v13 V : FVec Ideal S8x16x64 .f32) (ix3 b h d) = (((H b h).k n d : ℝ) : EReal) :=
  (slice4 hn _ _ hV.cnt b h d).trans (hV.k ⟨n, hn⟩ b h d)

theorem beta (b : Fin 8) (h : Fin 16) (i j : Fin 1) : (res_main_while0b_v18 V : FVec Ideal S8x16x1x1 .f32) (ix4 b h i j) = (((H b h).b n : ℝ) : EReal) := by
  have ha := fun (b : Fin 8) (h : Fin 16) => (slice3 hn (V (Proc.devRef .tc main_v7_4)) _ hV.cnt b h).trans (hV.b ⟨n, hn⟩ b h)
  unfold res_main_while0b_v18
  unfold at3 at ha
  generalize shapeCast S8x16 (Host.dynamicSlice S1x8x16 (V (Proc.devRef .tc main_v7_4)) _ _) _ = A at *
  pointwise
  exact ha b h

/-- The state after the step. -/
theorem state (b : Fin 8) (h : Fin 16) (d e : Fin 64) :
    (res_main_while0b_v37 V : FVec Ideal S8x16x64x64 .f32) (ix4 b h d e) = (((H b h).state 0 (n + 1) d e : ℝ) : EReal) := by
  have ha := fun (b : Fin 8) (h : Fin 16) => (slice3 hn (V (Proc.devRef .tc main_v7_3)) _ hV.cnt b h).trans (hV.a ⟨n, hn⟩ b h)
  have hv := fun (b : Fin 8) (h : Fin 16) (d : Fin 64) => (slice4 hn (V (Proc.devRef .tc main_v7_2)) _ hV.cnt b h d).trans (hV.v ⟨n, hn⟩ b h d)
  have hk := key hn hV
  have hb := beta hn hV
  have hS := hV.S
  unfold res_main_while0b_v37
  unfold at3 at ha
  unfold at4 at hv
  generalize shapeCast S8x16 (Host.dynamicSlice S1x8x16 (V (Proc.devRef .tc main_v7_3)) _ _) _ = A at *
  generalize shapeCast S8x16x64 (Host.dynamicSlice S1x8x16x64 (V (Proc.devRef .tc main_v7_2)) _ _) _ = W at *
  generalize res_main_while0b_v13 V = K at *
  generalize res_main_while0b_v18 V = B at *
  generalize V (Proc.devRef .tc main_v7_6) = S at *
  pointwise
  simp only [ha, hv, hk, hb, hS, ← EReal.coe_mul, ← EReal.coe_add, ← EReal.coe_sub, coe_sum, Seq.state, Seq.step]

/-- The output of the step, and the outputs before. -/
theorem outs (t : Fin 2048) (b : Fin 8) (h : Fin 16) (d : Fin 64) (ht : (t : ℕ) < n + 1) :
    (step_main_v7_7 V : FVec Ideal S2048x8x16x64 .f32) (ix4 t b h d) = (((H b h).out 0 t d : ℝ) : EReal) := by
  have hq := fun (b : Fin 8) (h : Fin 16) (d : Fin 64) => (slice4 hn (V (Proc.devRef .tc main_v7_0)) _ hV.cnt b h d).trans (hV.q ⟨n, hn⟩ b h d)
  have hS := state hn hV
  refine (update4 hn _ _ _ hV.cnt t b h d).trans ?_
  split_ifs with e
  · unfold at4 at hq
    generalize shapeCast S8x16x64 (Host.dynamicSlice S1x8x16x64 (V (Proc.devRef .tc main_v7_0)) _ _) _ = Q at *
    generalize res_main_while0b_v37 V = S at *
    pointwise
    simp only [hq, hS, ← EReal.coe_mul, coe_sum, Seq.out, e]
  · exact hV.o t b h d (by omega)

/-- One step. -/
theorem holds_step : Holds H (n + 1) (STEP V) where
  q := by rw [STEP_main_v7_0]; exact hV.q
  k := by rw [STEP_main_v7_1]; exact hV.k
  v := by rw [STEP_main_v7_2]; exact hV.v
  a := by rw [STEP_main_v7_3]; exact hV.a
  b := by rw [STEP_main_v7_4]; exact hV.b
  cnt := by
    rw [STEP_main_v7_5]
    refine (congrArg (fun x : IVec S_ 32 => addi x (constantI S_ 32 1#32)) hV.cnt).trans ?_
    funext i
    exact (BitVec.ofNat_add n 1).symm
  S := by rw [STEP_main_v7_6]; exact state hn hV
  o := by rw [STEP_main_v7_7]; exact outs hn hV

omit hn hV in
/-- Every step. -/
theorem holds_iter (h0 : Holds H 0 V) : ∀ k, k ≤ 2048 → Holds H k (STEP^[k] V)
  | 0, _ => h0
  | k + 1, hk => by
    rw [Function.iterate_succ_apply']
    exact holds_step (by omega) (holds_iter h0 k (by omega))

omit hn hV in
/-- The loop's entry: the arguments, with time first, and zeros. -/
theorem entry (m : (ℓ : Loc nD τ sig) → Buf (Elt Ideal) ℓ) (c : Dev nD)
    (hq : ∀ (b : Fin 8) (h : Fin 16) (t : Fin 2048) (d : Fin 64), (m ((c.tc : Thread nD τ).loc main_arg0) : FVec Ideal S8x16x2048x64 .f32) (ix4 b h t d) = (((H b h).q t d : ℝ) : EReal))
    (hk : ∀ (b : Fin 8) (h : Fin 16) (t : Fin 2048) (d : Fin 64), (m ((c.tc : Thread nD τ).loc main_arg1) : FVec Ideal S8x16x2048x64 .f32) (ix4 b h t d) = (((H b h).k t d : ℝ) : EReal))
    (hv : ∀ (b : Fin 8) (h : Fin 16) (t : Fin 2048) (d : Fin 64), (m ((c.tc : Thread nD τ).loc main_arg2) : FVec Ideal S8x16x2048x64 .f32) (ix4 b h t d) = (((H b h).v t d : ℝ) : EReal))
    (ha : ∀ (b : Fin 8) (t : Fin 2048) (h : Fin 16), (m ((c.tc : Thread nD τ).loc main_arg3) : FVec Ideal S8x2048x16 .f32) (ix3 b t h) = (((H b h).a t : ℝ) : EReal))
    (hb : ∀ (b : Fin 8) (t : Fin 2048) (h : Fin 16), (m ((c.tc : Thread nD τ).loc main_arg4) : FVec Ideal S8x2048x16 .f32) (ix3 b t h) = (((H b h).b t : ℝ) : EReal)) :
    Holds H 0 (entryContents preI m c) where
  q t b h d := by
    refine Eq.trans ?_ (hq b h t d)
    simp only [entryContents, afterL_cons, afterL_nil]
    after_reads_simp
    simp only [id]
    pointwise [launchContents]
  k t b h d := by
    refine Eq.trans ?_ (hk b h t d)
    simp only [entryContents, afterL_cons, afterL_nil]
    after_reads_simp
    simp only [id]
    pointwise [launchContents]
  v t b h d := by
    refine Eq.trans ?_ (hv b h t d)
    simp only [entryContents, afterL_cons, afterL_nil]
    after_reads_simp
    simp only [id]
    pointwise [launchContents]
  a t b h := by
    refine Eq.trans ?_ (ha b t h)
    simp only [entryContents, afterL_cons, afterL_nil]
    after_reads_simp
    simp only [id]
    pointwise [launchContents]
  b t b h := by
    refine Eq.trans ?_ (hb b t h)
    simp only [entryContents, afterL_cons, afterL_nil]
    after_reads_simp
    simp only [id]
    pointwise [launchContents]
  cnt := ctr_entry m c
  S b h d e := by
    refine Eq.trans ?_ (EReal.coe_zero).symm
    simp only [entryContents, afterL_cons, afterL_nil]
    after_reads_simp
    simp only [id]
    pointwise [launchContents]
  o t b h d ht := absurd ht (by omega)

omit hn hV in
/-- The output projection of the reference's outputs. -/
theorem proj {V : Valuation τ sig (Elt Ideal)} (hV : Holds H 2048 V) (w : Fin 1024 → Fin 1024 → ℝ)
    (hw : ∀ r s : Fin 1024, (V (Proc.devRef .tc main_arg5) : FVec Ideal S1024x1024 .f32) (ix2 r s) = ((w r s : ℝ) : EReal))
    (b : Fin 8) (t : Fin 2048) (r : Fin 1024) :
    (out_main_v11 V : FVec Ideal S8x2048x1024 .f32) (ix3 b t r)
      = ((∑ x : Fin 1024, (H b (head x)).out 0 t ⟨x % 64, Nat.mod_lt _ (by decide)⟩ * w r x : ℝ) : EReal) := by
  have ho := fun (t : Fin 2048) (b : Fin 8) (h : Fin 16) (d : Fin 64) => hV.o t b h d t.isLt
  unfold out_main_v11
  generalize V (Proc.devRef .tc main_v7_7) = O at *
  generalize V (Proc.devRef .tc main_arg5) = W at *
  pointwise
  simp only [hw, ho, ← EReal.coe_mul, coe_sum]
  rfl

end Cert.RefD
end
-- ==== Proof.BlkD.lean ====
/- The second kernel's windows: which elements of the arguments a grid point's blocks hold. -/
module
public import proofs.«01_k».proof.Proof.Gen.DeltaIdeal.Value
public import Idealize.ShloMosaic.Lib.Pipeline.ValueKit
public import Idealize.ShloMosaic.Lib.Claim
public import Idealize.ShloMosaic.Lib.Pointwise
@[expose] public section
noncomputable section
namespace Cert.BlkD
open Cert.DeltaIdeal Cert.DeltaIdeal.Gen Idealize.ShloMosaic Idealize.ShloMosaic.TcCoe

variable (m : (ℓ : Loc nD τ sig) → Buf (Elt Ideal) ℓ) (c : Dev nD)

/-- The input windows' block indices in terms of the point's number. -/
theorem idx : ∀ t : Fin cfg0.N, win0_0.index t = ![t.val / 32, 0, t.val % 32, 0] ∧ win0_1.index t = ![t.val / 32, 0, t.val % 32, 0]
    ∧ win0_2.index t = ![t.val / 32, 0, t.val % 32, 0] ∧ win0_3.index t = ![t.val / 32, t.val % 32, 0] ∧ win0_4.index t = ![t.val / 32, t.val % 32, 0]
    ∧ win0_5.index t = ![0, 0] ∧ win0_6.index t = ![0, 0] ∧ t.val / 32 < 8 :=
  (by decide +kernel : ∀ t : Fin grid0.N, _)

/-- The output windows' block indices. -/
theorem oidx : ∀ t : Fin cfg0.N, win0_7.index t = ![t.val / 32, t.val % 32, 0] ∧ win0_8.index t = ![t.val / 32, 0, 0, 0] :=
  (by decide +kernel : ∀ t : Fin grid0.N, _)

theorem lt8 (t : Fin cfg0.N) : t.val / 32 < 8 := by have := idx t; omega

theorem blk0 (t : Fin cfg0.N) (h : Fin 16) (r d : Fin 64) :
    iblk m c 0 t (ix4 0 h r d) = m ((c : Thread nD τ).loc main_arg0) (ix4 ⟨t.val / 32, lt8 t⟩ h ⟨t.val % 32 * 64 + r, by omega⟩ d) := by
  blk_ext [iblk, V, idx t]

theorem blk1 (t : Fin cfg0.N) (h : Fin 16) (r d : Fin 64) :
    iblk m c 1 t (ix4 0 h r d) = m ((c : Thread nD τ).loc main_arg1) (ix4 ⟨t.val / 32, lt8 t⟩ h ⟨t.val % 32 * 64 + r, by omega⟩ d) := by
  blk_ext [iblk, V, idx t]

theorem blk2 (t : Fin cfg0.N) (h : Fin 16) (r d : Fin 64) :
    iblk m c 2 t (ix4 0 h r d) = m ((c : Thread nD τ).loc main_arg2) (ix4 ⟨t.val / 32, lt8 t⟩ h ⟨t.val % 32 * 64 + r, by omega⟩ d) := by
  blk_ext [iblk, V, idx t]

theorem blk3 (t : Fin cfg0.N) (r : Fin 64) (h : Fin 16) :
    iblk m c 3 t (ix3 0 r h) = m ((c : Thread nD τ).loc main_arg3) (ix3 ⟨t.val / 32, lt8 t⟩ ⟨t.val % 32 * 64 + r, by omega⟩ h) := by
  blk_ext [iblk, V, idx t]

theorem blk4 (t : Fin cfg0.N) (r : Fin 64) (h : Fin 16) :
    iblk m c 4 t (ix3 0 r h) = m ((c : Thread nD τ).loc main_arg4) (ix3 ⟨t.val / 32, lt8 t⟩ ⟨t.val % 32 * 64 + r, by omega⟩ h) := by
  blk_ext [iblk, V, idx t]

theorem blk5 (t : Fin cfg0.N) (r k : Fin 1024) : iblk m c 5 t (ix2 r k) = m ((c : Thread nD τ).loc main_arg5) (ix2 k r) := by
  blk_simp [iblk, idx t]
  entry_read
  refine (congrArg _ (show (((View.whole main_v1).slice (win0_5.rect t)).emb (ix2 r k)) = ix2 r k by blk_ext [idx t])).trans ?_
  pointwise

theorem blk6 (t : Fin cfg0.N) (r k : Fin 1024) {x : ℝ} (hx : m ((c : Thread nD τ).loc main_arg5) (ix2 k r) = ((x : ℝ) : EReal)) :
    iblk m c 6 t (ix2 r k) = ((0 : ℝ) : EReal) := by
  blk_simp [iblk, idx t]
  entry_read
  refine (congrArg _ (show (((View.whole main_v4).slice (win0_6.rect t)).emb (ix2 r k)) = ix2 r k by blk_ext [idx t])).trans ?_
  pointwise
  exact (congrArg (fun y : EReal => y - y) hx).trans (by rw [← EReal.coe_sub, sub_self])

end Cert.BlkD
end
-- ==== Proof.HeadD.lean ====
/- One head of a chunk, as the kernel computes it: the same values for each of the sixteen heads, whose computations
   the kernel's text unrolls; then a chunk's sixteen heads together. -/
module
public import proofs.«01_k».proof.Proof.Gen.DeltaIdeal.Value
public import Idealize.ShloMosaic.Lib.Claim
public import Idealize.ShloMosaic.Lib.Pointwise
@[expose] public section
noncomputable section
namespace Cert.HeadD
open Cert.DeltaIdeal Cert.DeltaIdeal.Gen Idealize.ShloMosaic Idealize.ShloMosaic.TcCoe Idealize.SL.Sem

abbrev Sq := FVec Ideal S64x64 .f32

abbrev mm (A B : Sq) : Sq := matmul dot_S64x64_S64x64_S64x64_1_0_0_1_n_n (some .fp32) A B (constant S64x64 .f32 0x00000000#32)
abbrev zero : Sq := broadcast S64x64 (Scalar.ofBits .f32 0x00000000#32)
abbrev rows : IVec S64x64 32 := iota .tc S64x64 32 [0] iota_S64x64_d0_w32
abbrev cols : IVec S64x64 32 := iota .tc S64x64 32 [1] iota_S64x64_d1_w32

theorem sl_col (h : Fin 16) : S64x16.Slices ![0, h.val] S64x1 := by revert h; decide
theorem sl_row (h : Fin 16) : S16x64.Slices ![h.val, 0] S1x64 := by revert h; decide
theorem sl_last (h : Fin 16) : S64x16.Slices ![63, h.val] S1x1 := by revert h; decide
theorem sl_head (h : Fin 16) : S16x64x64.Slices ![h.val, 0, 0] S1x64x64 := by revert h; decide

/-- One head's values: its keys, queries and values, the decays and the learning rates of all heads, the state. -/
structure In where
  q : Vec Ideal S1x1x64x64 .f32
  k : Vec Ideal S1x1x64x64 .f32
  v : Vec Ideal S1x1x64x64 .f32
  h : Fin 16
  al : Vec Ideal S1x64x16 .f32
  be : Vec Ideal S1x64x16 .f32
  z : Vec Ideal S16x64x64 .f32

namespace In
variable (X : In)

def Q : Sq := shapeCast S64x64 X.q shapeCasts_S1x1x64x64_S64x64
def K : Sq := shapeCast S64x64 X.k shapeCasts_S1x1x64x64_S64x64
def Vv : Sq := shapeCast S64x64 X.v shapeCasts_S1x1x64x64_S64x64
def Kt : Sq := transpose S64x64 [1, 0] X.K transposes_S64x64_p1_0_S64x64
def ell : FVec Ideal S64x16 .f32 := k0_pay22 X.al
def ellT : FVec Ideal S16x64 .f32 := k0_pay23 X.al
def lc : FVec Ideal S64x1 .f32 := extractStridedSlice S64x1 ![0, X.h.val] X.ell (sl_col X.h)
def lr : FVec Ideal S1x64 .f32 := extractStridedSlice S1x64 ![X.h.val, 0] X.ellT (sl_row X.h)
def bc : FVec Ideal S64x1 .f32 := extractStridedSlice S64x1 ![0, X.h.val] (k0_pay21 X.be) (sl_col X.h)
def D : Sq := exp (subf (broadcastTo S64x64 X.lc broadcasts_S64x1_S64x64) (broadcastTo S64x64 X.lr broadcasts_S1x64_S64x64))
def B : Sq := broadcastTo S64x64 X.bc broadcasts_S64x1_S64x64
def gam : Sq := broadcastTo S64x64 (exp X.lc) broadcasts_S64x1_S64x64
def G : Sq := mulf (select (cmpi .sgt rows cols) (mulf (mm X.K X.Kt) X.D) zero) X.B
def A : Sq := select (cmpi .sge rows cols) (mulf (mm X.Q X.Kt) X.D) zero
def Z : Sq := shapeCast S64x64 (extractStridedSlice S1x64x64 ![X.h.val, 0, 0] X.z (sl_head X.h)) shapeCasts_S1x64x64_S64x64
def R : Sq := mulf (subf X.Vv (mm (mulf X.K X.gam) X.Z)) X.B
def G1 : Sq := mm X.G X.G
def G2 : Sq := mm X.G1 X.G1
def G3 : Sq := mm X.G2 X.G2
def G4 : Sq := mm X.G3 X.G3
def G5 : Sq := mm X.G4 X.G4
def U0 : Sq := subf X.R (mm X.G X.R)
def U1 : Sq := addf X.U0 (mm X.G1 X.U0)
def U2 : Sq := addf X.U1 (mm X.G2 X.U1)
def U3 : Sq := addf X.U2 (mm X.G3 X.U2)
def U4 : Sq := addf X.U3 (mm X.G4 X.U3)
def U : Sq := addf X.U4 (mm X.G5 X.U4)
def out : Sq := addf (mm X.A X.U) (mm (mulf X.Q X.gam) X.Z)
def lC : FVec Ideal S1x1 .f32 := extractStridedSlice S1x1 ![63, X.h.val] X.ell (sl_last X.h)
def next : Sq :=
  addf (mulf X.Z (broadcastTo S64x64 (exp X.lC) broadcasts_S1x1_S64x64))
    (mm (mulf X.Kt (broadcastTo S64x64 (exp (subf (broadcastTo S1x64 X.lC broadcasts_S1x1_S1x64) X.lr)) broadcasts_S1x64_S64x64)) X.U)
end In

/-- The matrix of zeros the products start from. -/
abbrev nil : Sq := constant S64x64 .f32 0x00000000#32

theorem next_0 (X : In) (hh : X.h = 0) : k0_pay36 (k0_pay22 X.al) (k0_pay27 X.k) (k0_pay29 X.al) (k0_pay33 X.z) (k0_pay34 (k0_pay21 X.be) rows cols X.z (k0_pay25 X.k) (k0_pay26 X.v) (k0_pay27 X.k) (k0_pay28 X.al) (k0_pay29 X.al)) = X.next := by
  obtain ⟨q, k, v, h, al, be, z⟩ := X; cases hh; unfold k0_pay25 k0_pay26 k0_pay27 k0_pay28 k0_pay29 k0_pay33 k0_pay34 k0_pay36; rfl

theorem out_0 (X : In) (hh : X.h = 0) : k0_pay35 (k0_pay24 X.q) (k0_pay31 (k0_pay28 X.al)) (k0_pay32 rows cols (k0_pay24 X.q) (k0_pay27 X.k) (k0_pay28 X.al) (k0_pay29 X.al)) (k0_pay33 X.z) (k0_pay34 (k0_pay21 X.be) rows cols X.z (k0_pay25 X.k) (k0_pay26 X.v) (k0_pay27 X.k) (k0_pay28 X.al) (k0_pay29 X.al)) nil = X.out := by
  obtain ⟨q, k, v, h, al, be, z⟩ := X; cases hh; unfold k0_pay24 k0_pay25 k0_pay26 k0_pay27 k0_pay28 k0_pay29 k0_pay31 k0_pay32 k0_pay33 k0_pay34 k0_pay35; rfl

theorem next_1 (X : In) (hh : X.h = 1) : k0_pay52 (k0_pay22 X.al) X.z (k0_pay38 X.k) (k0_pay39 X.v) (k0_pay40 X.k) (k0_pay42 (k0_pay23 X.al)) (k0_pay44 (k0_pay21 X.be)) (k0_pay45 (k0_pay22 X.al)) (k0_pay46 (k0_pay21 X.be) rows cols (k0_pay22 X.al) (k0_pay23 X.al) X.k) = X.next := by
  obtain ⟨q, k, v, h, al, be, z⟩ := X; cases hh; unfold k0_pay38 k0_pay39 k0_pay40 k0_pay42 k0_pay44 k0_pay45 k0_pay46 k0_pay52; rfl

theorem out_1 (X : In) (hh : X.h = 1) : k0_pay51 X.z (k0_pay37 X.q) (k0_pay38 X.k) (k0_pay39 X.v) (k0_pay44 (k0_pay21 X.be)) (k0_pay45 (k0_pay22 X.al)) (k0_pay46 (k0_pay21 X.be) rows cols (k0_pay22 X.al) (k0_pay23 X.al) X.k) (k0_pay47 rows cols) (k0_pay48 (k0_pay22 X.al) (k0_pay23 X.al) X.q X.k) (Scalar.ofBits .f32 0x00000000#32) = X.out := by
  obtain ⟨q, k, v, h, al, be, z⟩ := X; cases hh; unfold k0_pay37 k0_pay38 k0_pay39 k0_pay44 k0_pay45 k0_pay46 k0_pay47 k0_pay48 k0_pay51; rfl

theorem next_2 (X : In) (hh : X.h = 2) : k0_pay68 (k0_pay22 X.al) (k0_pay55 X.k) (k0_pay57 (k0_pay23 X.al)) (k0_pay63 X.z) (k0_pay64 (k0_pay21 X.be) rows cols (k0_pay22 X.al) (k0_pay23 X.al) X.k) (k0_pay65 (k0_pay21 X.be) rows cols (k0_pay22 X.al) (k0_pay23 X.al) X.z X.k X.v) nil = X.next := by
  obtain ⟨q, k, v, h, al, be, z⟩ := X; cases hh; unfold k0_pay55 k0_pay57 k0_pay63 k0_pay64 k0_pay65 k0_pay68; rfl

theorem out_2 (X : In) (hh : X.h = 2) : k0_pay67 (k0_pay53 X.q) (k0_pay60 (k0_pay22 X.al)) (k0_pay62 rows cols (k0_pay22 X.al) (k0_pay23 X.al) X.q X.k) (k0_pay63 X.z) (k0_pay64 (k0_pay21 X.be) rows cols (k0_pay22 X.al) (k0_pay23 X.al) X.k) (k0_pay65 (k0_pay21 X.be) rows cols (k0_pay22 X.al) (k0_pay23 X.al) X.z X.k X.v) nil = X.out := by
  obtain ⟨q, k, v, h, al, be, z⟩ := X; cases hh; unfold k0_pay53 k0_pay60 k0_pay62 k0_pay63 k0_pay64 k0_pay65 k0_pay67; rfl

theorem next_3 (X : In) (hh : X.h = 3) : k0_pay81 (k0_pay22 X.al) (k0_pay72 X.k) (k0_pay74 (k0_pay23 X.al)) (k0_pay78 X.z) (k0_pay79 (k0_pay21 X.be) rows cols X.z (k0_pay70 X.k) (k0_pay71 X.v) (k0_pay72 X.k) (k0_pay73 (k0_pay22 X.al)) (k0_pay74 (k0_pay23 X.al))) = X.next := by
  obtain ⟨q, k, v, h, al, be, z⟩ := X; cases hh; unfold k0_pay70 k0_pay71 k0_pay72 k0_pay73 k0_pay74 k0_pay78 k0_pay79 k0_pay81; rfl

theorem out_3 (X : In) (hh : X.h = 3) : k0_pay80 (k0_pay69 X.q) (k0_pay76 (k0_pay73 (k0_pay22 X.al))) (k0_pay77 rows cols (k0_pay69 X.q) (k0_pay72 X.k) (k0_pay73 (k0_pay22 X.al)) (k0_pay74 (k0_pay23 X.al))) (k0_pay78 X.z) (k0_pay79 (k0_pay21 X.be) rows cols X.z (k0_pay70 X.k) (k0_pay71 X.v) (k0_pay72 X.k) (k0_pay73 (k0_pay22 X.al)) (k0_pay74 (k0_pay23 X.al))) nil = X.out := by
  obtain ⟨q, k, v, h, al, be, z⟩ := X; cases hh; unfold k0_pay69 k0_pay70 k0_pay71 k0_pay72 k0_pay73 k0_pay74 k0_pay76 k0_pay77 k0_pay78 k0_pay79 k0_pay80; rfl

theorem next_4 (X : In) (hh : X.h = 4) : k0_pay97 (k0_pay22 X.al) X.z (k0_pay83 X.k) (k0_pay84 X.v) (k0_pay85 X.k) (k0_pay87 (k0_pay23 X.al)) (k0_pay89 (k0_pay21 X.be)) (k0_pay90 (k0_pay22 X.al)) (k0_pay91 (k0_pay21 X.be) rows cols (k0_pay22 X.al) (k0_pay23 X.al) X.k) = X.next := by
  obtain ⟨q, k, v, h, al, be, z⟩ := X; cases hh; unfold k0_pay83 k0_pay84 k0_pay85 k0_pay87 k0_pay89 k0_pay90 k0_pay91 k0_pay97; rfl

theorem out_4 (X : In) (hh : X.h = 4) : k0_pay96 X.z (k0_pay82 X.q) (k0_pay83 X.k) (k0_pay84 X.v) (k0_pay89 (k0_pay21 X.be)) (k0_pay90 (k0_pay22 X.al)) (k0_pay91 (k0_pay21 X.be) rows cols (k0_pay22 X.al) (k0_pay23 X.al) X.k) (k0_pay92 rows cols) (k0_pay93 (k0_pay22 X.al) (k0_pay23 X.al) X.q X.k) (Scalar.ofBits .f32 0x00000000#32) = X.out := by
  obtain ⟨q, k, v, h, al, be, z⟩ := X; cases hh; unfold k0_pay82 k0_pay83 k0_pay84 k0_pay89 k0_pay90 k0_pay91 k0_pay92 k0_pay93 k0_pay96; rfl

theorem next_5 (X : In) (hh : X.h = 5) : k0_pay113 (k0_pay22 X.al) (k0_pay100 X.k) (k0_pay102 (k0_pay23 X.al)) (k0_pay108 X.z) (k0_pay109 (k0_pay21 X.be) rows cols (k0_pay22 X.al) (k0_pay23 X.al) X.k) (k0_pay110 (k0_pay21 X.be) rows cols (k0_pay22 X.al) (k0_pay23 X.al) X.z X.k X.v) nil = X.next := by
  obtain ⟨q, k, v, h, al, be, z⟩ := X; cases hh; unfold k0_pay100 k0_pay102 k0_pay108 k0_pay109 k0_pay110 k0_pay113; rfl

theorem out_5 (X : In) (hh : X.h = 5) : k0_pay112 (k0_pay98 X.q) (k0_pay105 (k0_pay22 X.al)) (k0_pay107 rows cols (k0_pay22 X.al) (k0_pay23 X.al) X.q X.k) (k0_pay108 X.z) (k0_pay109 (k0_pay21 X.be) rows cols (k0_pay22 X.al) (k0_pay23 X.al) X.k) (k0_pay110 (k0_pay21 X.be) rows cols (k0_pay22 X.al) (k0_pay23 X.al) X.z X.k X.v) nil = X.out := by
  obtain ⟨q, k, v, h, al, be, z⟩ := X; cases hh; unfold k0_pay98 k0_pay105 k0_pay107 k0_pay108 k0_pay109 k0_pay110 k0_pay112; rfl

theorem next_6 (X : In) (hh : X.h = 6) : k0_pay126 (k0_pay22 X.al) (k0_pay117 X.k) (k0_pay119 (k0_pay23 X.al)) (k0_pay123 X.z) (k0_pay124 (k0_pay21 X.be) rows cols X.z (k0_pay115 X.k) (k0_pay116 X.v) (k0_pay117 X.k) (k0_pay118 (k0_pay22 X.al)) (k0_pay119 (k0_pay23 X.al))) = X.next := by
  obtain ⟨q, k, v, h, al, be, z⟩ := X; cases hh; unfold k0_pay115 k0_pay116 k0_pay117 k0_pay118 k0_pay119 k0_pay123 k0_pay124 k0_pay126; rfl

theorem out_6 (X : In) (hh : X.h = 6) : k0_pay125 (k0_pay114 X.q) (k0_pay121 (k0_pay118 (k0_pay22 X.al))) (k0_pay122 rows cols (k0_pay114 X.q) (k0_pay117 X.k) (k0_pay118 (k0_pay22 X.al)) (k0_pay119 (k0_pay23 X.al))) (k0_pay123 X.z) (k0_pay124 (k0_pay21 X.be) rows cols X.z (k0_pay115 X.k) (k0_pay116 X.v) (k0_pay117 X.k) (k0_pay118 (k0_pay22 X.al)) (k0_pay119 (k0_pay23 X.al))) nil = X.out := by
  obtain ⟨q, k, v, h, al, be, z⟩ := X; cases hh; unfold k0_pay114 k0_pay115 k0_pay116 k0_pay117 k0_pay118 k0_pay119 k0_pay121 k0_pay122 k0_pay123 k0_pay124 k0_pay125; rfl

theorem next_7 (X : In) (hh : X.h = 7) : k0_pay142 (k0_pay22 X.al) X.z (k0_pay128 X.k) (k0_pay129 X.v) (k0_pay130 X.k) (k0_pay132 (k0_pay23 X.al)) (k0_pay134 (k0_pay21 X.be)) (k0_pay135 (k0_pay22 X.al)) (k0_pay136 (k0_pay21 X.be) rows cols (k0_pay22 X.al) (k0_pay23 X.al) X.k) = X.next := by
  obtain ⟨q, k, v, h, al, be, z⟩ := X; cases hh; unfold k0_pay128 k0_pay129 k0_pay130 k0_pay132 k0_pay134 k0_pay135 k0_pay136 k0_pay142; rfl

theorem out_7 (X : In) (hh : X.h = 7) : k0_pay141 X.z (k0_pay127 X.q) (k0_pay128 X.k) (k0_pay129 X.v) (k0_pay134 (k0_pay21 X.be)) (k0_pay135 (k0_pay22 X.al)) (k0_pay136 (k0_pay21 X.be) rows cols (k0_pay22 X.al) (k0_pay23 X.al) X.k) (k0_pay137 rows cols) (k0_pay138 (k0_pay22 X.al) (k0_pay23 X.al) X.q X.k) (Scalar.ofBits .f32 0x00000000#32) = X.out := by
  obtain ⟨q, k, v, h, al, be, z⟩ := X; cases hh; unfold k0_pay127 k0_pay128 k0_pay129 k0_pay134 k0_pay135 k0_pay136 k0_pay137 k0_pay138 k0_pay141; rfl

theorem next_8 (X : In) (hh : X.h = 8) : k0_pay158 (k0_pay22 X.al) (k0_pay145 X.k) (k0_pay147 (k0_pay23 X.al)) (k0_pay153 X.z) (k0_pay154 (k0_pay21 X.be) rows cols (k0_pay22 X.al) (k0_pay23 X.al) X.k) (k0_pay155 (k0_pay21 X.be) rows cols (k0_pay22 X.al) (k0_pay23 X.al) X.z X.k X.v) nil = X.next := by
  obtain ⟨q, k, v, h, al, be, z⟩ := X; cases hh; unfold k0_pay145 k0_pay147 k0_pay153 k0_pay154 k0_pay155 k0_pay158; rfl

theorem out_8 (X : In) (hh : X.h = 8) : k0_pay157 (k0_pay143 X.q) (k0_pay150 (k0_pay22 X.al)) (k0_pay152 rows cols (k0_pay22 X.al) (k0_pay23 X.al) X.q X.k) (k0_pay153 X.z) (k0_pay154 (k0_pay21 X.be) rows cols (k0_pay22 X.al) (k0_pay23 X.al) X.k) (k0_pay155 (k0_pay21 X.be) rows cols (k0_pay22 X.al) (k0_pay23 X.al) X.z X.k X.v) nil = X.out := by
  obtain ⟨q, k, v, h, al, be, z⟩ := X; cases hh; unfold k0_pay143 k0_pay150 k0_pay152 k0_pay153 k0_pay154 k0_pay155 k0_pay157; rfl

theorem next_9 (X : In) (hh : X.h = 9) : k0_pay171 (k0_pay22 X.al) (k0_pay162 X.k) (k0_pay164 (k0_pay23 X.al)) (k0_pay168 X.z) (k0_pay169 (k0_pay21 X.be) rows cols X.z (k0_pay160 X.k) (k0_pay161 X.v) (k0_pay162 X.k) (k0_pay163 (k0_pay22 X.al)) (k0_pay164 (k0_pay23 X.al))) = X.next := by
  obtain ⟨q, k, v, h, al, be, z⟩ := X; cases hh; unfold k0_pay160 k0_pay161 k0_pay162 k0_pay163 k0_pay164 k0_pay168 k0_pay169 k0_pay171; rfl

theorem out_9 (X : In) (hh : X.h = 9) : k0_pay170 (k0_pay159 X.q) (k0_pay166 (k0_pay163 (k0_pay22 X.al))) (k0_pay167 rows cols (k0_pay159 X.q) (k0_pay162 X.k) (k0_pay163 (k0_pay22 X.al)) (k0_pay164 (k0_pay23 X.al))) (k0_pay168 X.z) (k0_pay169 (k0_pay21 X.be) rows cols X.z (k0_pay160 X.k) (k0_pay161 X.v) (k0_pay162 X.k) (k0_pay163 (k0_pay22 X.al)) (k0_pay164 (k0_pay23 X.al))) nil = X.out := by
  obtain ⟨q, k, v, h, al, be, z⟩ := X; cases hh; unfold k0_pay159 k0_pay160 k0_pay161 k0_pay162 k0_pay163 k0_pay164 k0_pay166 k0_pay167 k0_pay168 k0_pay169 k0_pay170; rfl

theorem next_10 (X : In) (hh : X.h = 10) : k0_pay187 (k0_pay22 X.al) X.z (k0_pay173 X.k) (k0_pay174 X.v) (k0_pay175 X.k) (k0_pay177 (k0_pay23 X.al)) (k0_pay179 (k0_pay21 X.be)) (k0_pay180 (k0_pay22 X.al)) (k0_pay181 (k0_pay21 X.be) rows cols (k0_pay22 X.al) (k0_pay23 X.al) X.k) = X.next := by
  obtain ⟨q, k, v, h, al, be, z⟩ := X; cases hh; unfold k0_pay173 k0_pay174 k0_pay175 k0_pay177 k0_pay179 k0_pay180 k0_pay181 k0_pay187; rfl

theorem out_10 (X : In) (hh : X.h = 10) : k0_pay186 X.z (k0_pay172 X.q) (k0_pay173 X.k) (k0_pay174 X.v) (k0_pay179 (k0_pay21 X.be)) (k0_pay180 (k0_pay22 X.al)) (k0_pay181 (k0_pay21 X.be) rows cols (k0_pay22 X.al) (k0_pay23 X.al) X.k) (k0_pay182 rows cols) (k0_pay183 (k0_pay22 X.al) (k0_pay23 X.al) X.q X.k) (Scalar.ofBits .f32 0x00000000#32) = X.out := by
  obtain ⟨q, k, v, h, al, be, z⟩ := X; cases hh; unfold k0_pay172 k0_pay173 k0_pay174 k0_pay179 k0_pay180 k0_pay181 k0_pay182 k0_pay183 k0_pay186; rfl

theorem next_11 (X : In) (hh : X.h = 11) : k0_pay203 (k0_pay22 X.al) (k0_pay190 X.k) (k0_pay192 (k0_pay23 X.al)) (k0_pay198 X.z) (k0_pay199 (k0_pay21 X.be) rows cols (k0_pay22 X.al) (k0_pay23 X.al) X.k) (k0_pay200 (k0_pay21 X.be) rows cols (k0_pay22 X.al) (k0_pay23 X.al) X.z X.k X.v) nil = X.next := by
  obtain ⟨q, k, v, h, al, be, z⟩ := X; cases hh; unfold k0_pay190 k0_pay192 k0_pay198 k0_pay199 k0_pay200 k0_pay203; rfl

theorem out_11 (X : In) (hh : X.h = 11) : k0_pay202 (k0_pay188 X.q) (k0_pay195 (k0_pay22 X.al)) (k0_pay197 rows cols (k0_pay22 X.al) (k0_pay23 X.al) X.q X.k) (k0_pay198 X.z) (k0_pay199 (k0_pay21 X.be) rows cols (k0_pay22 X.al) (k0_pay23 X.al) X.k) (k0_pay200 (k0_pay21 X.be) rows cols (k0_pay22 X.al) (k0_pay23 X.al) X.z X.k X.v) nil = X.out := by
  obtain ⟨q, k, v, h, al, be, z⟩ := X; cases hh; unfold k0_pay188 k0_pay195 k0_pay197 k0_pay198 k0_pay199 k0_pay200 k0_pay202; rfl

theorem next_12 (X : In) (hh : X.h = 12) : k0_pay216 (k0_pay22 X.al) (k0_pay207 X.k) (k0_pay209 (k0_pay23 X.al)) (k0_pay213 X.z) (k0_pay214 (k0_pay21 X.be) rows cols X.z (k0_pay205 X.k) (k0_pay206 X.v) (k0_pay207 X.k) (k0_pay208 (k0_pay22 X.al)) (k0_pay209 (k0_pay23 X.al))) = X.next := by
  obtain ⟨q, k, v, h, al, be, z⟩ := X; cases hh; unfold k0_pay205 k0_pay206 k0_pay207 k0_pay208 k0_pay209 k0_pay213 k0_pay214 k0_pay216; rfl

theorem out_12 (X : In) (hh : X.h = 12) : k0_pay215 (k0_pay204 X.q) (k0_pay211 (k0_pay208 (k0_pay22 X.al))) (k0_pay212 rows cols (k0_pay204 X.q) (k0_pay207 X.k) (k0_pay208 (k0_pay22 X.al)) (k0_pay209 (k0_pay23 X.al))) (k0_pay213 X.z) (k0_pay214 (k0_pay21 X.be) rows cols X.z (k0_pay205 X.k) (k0_pay206 X.v) (k0_pay207 X.k) (k0_pay208 (k0_pay22 X.al)) (k0_pay209 (k0_pay23 X.al))) nil = X.out := by
  obtain ⟨q, k, v, h, al, be, z⟩ := X; cases hh; unfold k0_pay204 k0_pay205 k0_pay206 k0_pay207 k0_pay208 k0_pay209 k0_pay211 k0_pay212 k0_pay213 k0_pay214 k0_pay215; rfl

theorem next_13 (X : In) (hh : X.h = 13) : k0_pay232 (k0_pay22 X.al) X.z (k0_pay218 X.k) (k0_pay219 X.v) (k0_pay220 X.k) (k0_pay222 (k0_pay23 X.al)) (k0_pay224 (k0_pay21 X.be)) (k0_pay225 (k0_pay22 X.al)) (k0_pay226 (k0_pay21 X.be) rows cols (k0_pay22 X.al) (k0_pay23 X.al) X.k) = X.next := by
  obtain ⟨q, k, v, h, al, be, z⟩ := X; cases hh; unfold k0_pay218 k0_pay219 k0_pay220 k0_pay222 k0_pay224 k0_pay225 k0_pay226 k0_pay232; rfl

theorem out_13 (X : In) (hh : X.h = 13) : k0_pay231 X.z (k0_pay217 X.q) (k0_pay218 X.k) (k0_pay219 X.v) (k0_pay224 (k0_pay21 X.be)) (k0_pay225 (k0_pay22 X.al)) (k0_pay226 (k0_pay21 X.be) rows cols (k0_pay22 X.al) (k0_pay23 X.al) X.k) (k0_pay227 rows cols) (k0_pay228 (k0_pay22 X.al) (k0_pay23 X.al) X.q X.k) (Scalar.ofBits .f32 0x00000000#32) = X.out := by
  obtain ⟨q, k, v, h, al, be, z⟩ := X; cases hh; unfold k0_pay217 k0_pay218 k0_pay219 k0_pay224 k0_pay225 k0_pay226 k0_pay227 k0_pay228 k0_pay231; rfl

theorem next_14 (X : In) (hh : X.h = 14) : k0_pay248 (k0_pay22 X.al) (k0_pay235 X.k) (k0_pay237 (k0_pay23 X.al)) (k0_pay243 X.z) (k0_pay244 (k0_pay21 X.be) rows cols (k0_pay22 X.al) (k0_pay23 X.al) X.k) (k0_pay245 (k0_pay21 X.be) rows cols (k0_pay22 X.al) (k0_pay23 X.al) X.z X.k X.v) nil = X.next := by
  obtain ⟨q, k, v, h, al, be, z⟩ := X; cases hh; unfold k0_pay235 k0_pay237 k0_pay243 k0_pay244 k0_pay245 k0_pay248; rfl

theorem out_14 (X : In) (hh : X.h = 14) : k0_pay247 (k0_pay233 X.q) (k0_pay240 (k0_pay22 X.al)) (k0_pay242 rows cols (k0_pay22 X.al) (k0_pay23 X.al) X.q X.k) (k0_pay243 X.z) (k0_pay244 (k0_pay21 X.be) rows cols (k0_pay22 X.al) (k0_pay23 X.al) X.k) (k0_pay245 (k0_pay21 X.be) rows cols (k0_pay22 X.al) (k0_pay23 X.al) X.z X.k X.v) nil = X.out := by
  obtain ⟨q, k, v, h, al, be, z⟩ := X; cases hh; unfold k0_pay233 k0_pay240 k0_pay242 k0_pay243 k0_pay244 k0_pay245 k0_pay247; rfl

/-- A chunk: every head's queries, keys and values, and what the heads share. -/
structure Chunk where
  q : Fin 16 → Vec Ideal S1x1x64x64 .f32
  k : Fin 16 → Vec Ideal S1x1x64x64 .f32
  v : Fin 16 → Vec Ideal S1x1x64x64 .f32
  al : Vec Ideal S1x64x16 .f32
  be : Vec Ideal S1x64x16 .f32
  z : Vec Ideal S16x64x64 .f32

namespace Chunk
variable (Y : Chunk)

/-- A chunk's head. -/
def «at» (h : Fin 16) : In := ⟨Y.q h, Y.k h, Y.v h, h, Y.al, Y.be, Y.z⟩

/-- The states after the chunk. -/
def next : FVec Ideal S16x64x64 .f32 :=
  shapeCast S16x64x64 (concatenate S16x64x64 0 [⟨S1x64x64, shapeCast S1x64x64 (Y.at 0).next shapeCasts_S64x64_S1x64x64⟩, ⟨S1x64x64, shapeCast S1x64x64 (Y.at 1).next shapeCasts_S64x64_S1x64x64⟩, ⟨S1x64x64, shapeCast S1x64x64 (Y.at 2).next shapeCasts_S64x64_S1x64x64⟩, ⟨S1x64x64, shapeCast S1x64x64 (Y.at 3).next shapeCasts_S64x64_S1x64x64⟩, ⟨S1x64x64, shapeCast S1x64x64 (Y.at 4).next shapeCasts_S64x64_S1x64x64⟩, ⟨S1x64x64, shapeCast S1x64x64 (Y.at 5).next shapeCasts_S64x64_S1x64x64⟩, ⟨S1x64x64, shapeCast S1x64x64 (Y.at 6).next shapeCasts_S64x64_S1x64x64⟩, ⟨S1x64x64, shapeCast S1x64x64 (Y.at 7).next shapeCasts_S64x64_S1x64x64⟩, ⟨S1x64x64, shapeCast S1x64x64 (Y.at 8).next shapeCasts_S64x64_S1x64x64⟩, ⟨S1x64x64, shapeCast S1x64x64 (Y.at 9).next shapeCasts_S64x64_S1x64x64⟩, ⟨S1x64x64, shapeCast S1x64x64 (Y.at 10).next shapeCasts_S64x64_S1x64x64⟩, ⟨S1x64x64, shapeCast S1x64x64 (Y.at 11).next shapeCasts_S64x64_S1x64x64⟩, ⟨S1x64x64, shapeCast S1x64x64 (Y.at 12).next shapeCasts_S64x64_S1x64x64⟩, ⟨S1x64x64, shapeCast S1x64x64 (Y.at 13).next shapeCasts_S64x64_S1x64x64⟩, ⟨S1x64x64, shapeCast S1x64x64 (Y.at 14).next shapeCasts_S64x64_S1x64x64⟩, ⟨S1x64x64, shapeCast S1x64x64 (Y.at 15).next shapeCasts_S64x64_S1x64x64⟩] concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0) shapeCasts_S16x64x64_S16x64x64

/-- The heads' outputs, side by side. -/
def out : FVec Ideal S64x1024 .f32 :=
  concatenate S64x1024 1 [⟨S64x64, (Y.at 0).out⟩, ⟨S64x64, (Y.at 1).out⟩, ⟨S64x64, (Y.at 2).out⟩, ⟨S64x64, (Y.at 3).out⟩, ⟨S64x64, (Y.at 4).out⟩, ⟨S64x64, (Y.at 5).out⟩, ⟨S64x64, (Y.at 6).out⟩, ⟨S64x64, (Y.at 7).out⟩, ⟨S64x64, (Y.at 8).out⟩, ⟨S64x64, (Y.at 9).out⟩, ⟨S64x64, (Y.at 10).out⟩, ⟨S64x64, (Y.at 11).out⟩, ⟨S64x64, (Y.at 12).out⟩, ⟨S64x64, (Y.at 13).out⟩, ⟨S64x64, (Y.at 14).out⟩, ⟨S64x64, (Y.at 15).out⟩] concatenates_S64x64_S64x64_S64x64_S64x64_S64x64_S64x64_S64x64_S64x64_S64x64_S64x64_S64x64_S64x64_S64x64_S64x64_S64x64_S64x64_S64x1024_d1

/-- The outputs against the output projection, each factor in two parts. -/
def proj (wh wl : Vec Ideal S1024x1024 .bf16) : FVec Ideal S1x64x1024 .f32 :=
  let hi : FVec Ideal S64x1024 .bf16 := truncf .bf16 Y.out bitsLt_bf16_f32
  let lo : FVec Ideal S64x1024 .bf16 := truncf .bf16 (subf Y.out (extf .f32 hi bitsLt_bf16_f32)) bitsLt_bf16_f32
  let h : FVec Ideal S1024x1024 .bf16 := shapeCast S1024x1024 wh shapeCasts_S1024x1024_S1024x1024
  let l : FVec Ideal S1024x1024 .bf16 := shapeCast S1024x1024 wl shapeCasts_S1024x1024_S1024x1024
  shapeCast S1x64x1024 (addf (addf (matmul dot_S64x1024_S1024x1024_S64x1024_1_0_0_1_n_n none hi h (constant S64x1024 .f32 0x00000000#32))
    (matmul dot_S64x1024_S1024x1024_S64x1024_1_0_0_1_n_n none lo h (constant S64x1024 .f32 0x00000000#32)))
    (matmul dot_S64x1024_S1024x1024_S64x1024_1_0_0_1_n_n none hi l (constant S64x1024 .f32 0x00000000#32))) shapeCasts_S64x1024_S1x64x1024

variable {Y} {e0 e1 e2 e3 e4 e5 e6 e7 e8 e9 e10 e11 e12 e13 e14 : Sq}

/-- The states the kernel stores. -/
theorem next_eq (h0 : e0 = (Y.at 0).next) (h1 : e1 = (Y.at 1).next) (h2 : e2 = (Y.at 2).next) (h3 : e3 = (Y.at 3).next) (h4 : e4 = (Y.at 4).next) (h5 : e5 = (Y.at 5).next) (h6 : e6 = (Y.at 6).next) (h7 : e7 = (Y.at 7).next) (h8 : e8 = (Y.at 8).next) (h9 : e9 = (Y.at 9).next) (h10 : e10 = (Y.at 10).next) (h11 : e11 = (Y.at 11).next) (h12 : e12 = (Y.at 12).next) (h13 : e13 = (Y.at 13).next) (h14 : e14 = (Y.at 14).next) :
    k0_pay260 (k0_pay22 Y.al) e0 e1 e2 e3 e4 e5 e6 e7 e8 e9 e10 e11 e12 e13 e14 (k0_pay252 (Y.k 15)) (k0_pay254 (k0_pay23 Y.al)) (k0_pay258 Y.z) (k0_pay259 (k0_pay21 Y.be) rows cols Y.z (k0_pay250 (Y.k 15)) (k0_pay251 (Y.v 15)) (k0_pay252 (Y.k 15)) (k0_pay253 (k0_pay22 Y.al)) (k0_pay254 (k0_pay23 Y.al))) = Y.next := by
  subst h0 h1 h2 h3 h4 h5 h6 h7 h8 h9 h10 h11 h12 h13 h14
  have h15 : (Y.at 15).next = (Y.at 15).next := rfl
  conv at h15 => lhs; unfold In.next
  unfold next k0_pay260
  rw [← h15]
  unfold k0_pay259 k0_pay258 k0_pay256 k0_pay255 k0_pay254 k0_pay253 k0_pay252 k0_pay251 k0_pay250
  rfl

/-- The outputs the kernel projects. -/
theorem out_eq (h0 : e0 = (Y.at 0).out) (h1 : e1 = (Y.at 1).out) (h2 : e2 = (Y.at 2).out) (h3 : e3 = (Y.at 3).out) (h4 : e4 = (Y.at 4).out) (h5 : e5 = (Y.at 5).out) (h6 : e6 = (Y.at 6).out) (h7 : e7 = (Y.at 7).out) (h8 : e8 = (Y.at 8).out) (h9 : e9 = (Y.at 9).out) (h10 : e10 = (Y.at 10).out) (h11 : e11 = (Y.at 11).out) (h12 : e12 = (Y.at 12).out) (h13 : e13 = (Y.at 13).out) (h14 : e14 = (Y.at 14).out) :
    k0_pay261 e0 e1 e2 e3 e4 e5 e6 e7 e8 e9 e10 e11 e12 e13 e14 (k0_pay249 (Y.q 15)) (k0_pay256 (k0_pay253 (k0_pay22 Y.al))) (k0_pay257 rows cols (k0_pay249 (Y.q 15)) (k0_pay252 (Y.k 15)) (k0_pay253 (k0_pay22 Y.al)) (k0_pay254 (k0_pay23 Y.al))) (k0_pay258 Y.z) (k0_pay259 (k0_pay21 Y.be) rows cols Y.z (k0_pay250 (Y.k 15)) (k0_pay251 (Y.v 15)) (k0_pay252 (Y.k 15)) (k0_pay253 (k0_pay22 Y.al)) (k0_pay254 (k0_pay23 Y.al))) nil = Y.out := by
  subst h0 h1 h2 h3 h4 h5 h6 h7 h8 h9 h10 h11 h12 h13 h14
  unfold k0_pay261 k0_pay259 k0_pay258 k0_pay257 k0_pay256 k0_pay255 k0_pay254 k0_pay253 k0_pay252 k0_pay251 k0_pay250 k0_pay249
  rfl

/-- The block the kernel stores. -/
theorem proj_eq (wh wl : Vec Ideal S1024x1024 .bf16) (h0 : e0 = (Y.at 0).out) (h1 : e1 = (Y.at 1).out) (h2 : e2 = (Y.at 2).out) (h3 : e3 = (Y.at 3).out) (h4 : e4 = (Y.at 4).out) (h5 : e5 = (Y.at 5).out) (h6 : e6 = (Y.at 6).out) (h7 : e7 = (Y.at 7).out) (h8 : e8 = (Y.at 8).out) (h9 : e9 = (Y.at 9).out) (h10 : e10 = (Y.at 10).out) (h11 : e11 = (Y.at 11).out) (h12 : e12 = (Y.at 12).out) (h13 : e13 = (Y.at 13).out) (h14 : e14 = (Y.at 14).out) :
    k0_pay1 (k0_pay262 e0 e1 e2 e3 e4 e5 e6 e7 e8 e9 e10 e11 e12 e13 e14 (k0_pay249 (Y.q 15)) (k0_pay256 (k0_pay253 (k0_pay22 Y.al))) (k0_pay257 rows cols (k0_pay249 (Y.q 15)) (k0_pay252 (Y.k 15)) (k0_pay253 (k0_pay22 Y.al)) (k0_pay254 (k0_pay23 Y.al))) (k0_pay258 Y.z) (k0_pay259 (k0_pay21 Y.be) rows cols Y.z (k0_pay250 (Y.k 15)) (k0_pay251 (Y.v 15)) (k0_pay252 (Y.k 15)) (k0_pay253 (k0_pay22 Y.al)) (k0_pay254 (k0_pay23 Y.al))) nil) (k0_pay264 wl) (k0_pay265 e0 e1 e2 e3 e4 e5 e6 e7 e8 e9 e10 e11 e12 e13 e14 (k0_pay249 (Y.q 15)) (k0_pay256 (k0_pay253 (k0_pay22 Y.al))) (k0_pay257 rows cols (k0_pay249 (Y.q 15)) (k0_pay252 (Y.k 15)) (k0_pay253 (k0_pay22 Y.al)) (k0_pay254 (k0_pay23 Y.al))) (k0_pay258 Y.z) (k0_pay259 (k0_pay21 Y.be) rows cols Y.z (k0_pay250 (Y.k 15)) (k0_pay251 (Y.v 15)) (k0_pay252 (Y.k 15)) (k0_pay253 (k0_pay22 Y.al)) (k0_pay254 (k0_pay23 Y.al))) nil wh) (k0_pay266 e0 e1 e2 e3 e4 e5 e6 e7 e8 e9 e10 e11 e12 e13 e14 (k0_pay249 (Y.q 15)) (k0_pay256 (k0_pay253 (k0_pay22 Y.al))) (k0_pay257 rows cols (k0_pay249 (Y.q 15)) (k0_pay252 (Y.k 15)) (k0_pay253 (k0_pay22 Y.al)) (k0_pay254 (k0_pay23 Y.al))) (k0_pay258 Y.z) (k0_pay259 (k0_pay21 Y.be) rows cols Y.z (k0_pay250 (Y.k 15)) (k0_pay251 (Y.v 15)) (k0_pay252 (Y.k 15)) (k0_pay253 (k0_pay22 Y.al)) (k0_pay254 (k0_pay23 Y.al))) nil wh) = Y.proj wh wl := by
  have e := out_eq h0 h1 h2 h3 h4 h5 h6 h7 h8 h9 h10 h11 h12 h13 h14
  unfold k0_pay1 k0_pay265 k0_pay266 k0_pay262 k0_pay263 k0_pay264
  rw [e]
  rfl
end Chunk
end Cert.HeadD
end
-- ==== Proof.KernD.lean ====
/- The kernel's values for one chunk are the chunk's matrices of `ScanMath`, when its loads are finite. -/
module
public import proofs.«01_k».proof.Proof.HeadD
public import proofs.«01_k».proof.Proof.ScanMath
public import proofs.«01_k».proof.Proof.Lift
@[expose] public section
noncomputable section
namespace Cert.KernD
open Cert.DeltaIdeal Cert.DeltaIdeal.Gen Idealize.ShloMosaic Idealize.ShloMosaic.TcCoe Idealize.SL.Sem Cert.Lift Cert.Scan Cert.HeadD

/-- The block `x` holds the matrix `A`. -/
def Is (x : Sq) (A : M) : Prop := ∀ r c, x (ix2 r c) = ((A r c : ℝ) : EReal)

section
variable {x y : Sq} {A B : M}

theorem Is.mm (hx : Is x A) (hy : Is y B) : Is (HeadD.mm x y) (A * B) := fun r c => by
  pointwise
  simp only [hx _ _, hy _ _, ← EReal.coe_mul, coe_sum, ← EReal.coe_add, zero_add, add_zero, Matrix.mul_apply]

theorem Is.add (hx : Is x A) (hy : Is y B) : Is (addf x y) (A + B) := fun r c => by
  pointwise
  simp only [hx _ _, hy _ _, ← EReal.coe_add, Matrix.add_apply]

theorem Is.sub (hx : Is x A) (hy : Is y B) : Is (subf x y) (A - B) := fun r c => by
  pointwise
  simp only [hx _ _, hy _ _, ← EReal.coe_sub, Matrix.sub_apply]

theorem Is.mul (hx : Is x A) (hy : Is y B) : Is (mulf x y) (fun r c => A r c * B r c) := fun r c => by
  pointwise
  simp only [hx _ _, hy _ _, ← EReal.coe_mul]

theorem Is.trans (hx : Is x A) : Is (transpose S64x64 [1, 0] x transposes_S64x64_p1_0_S64x64) A.transpose := fun r c => by
  pointwise
  exact hx _ _

theorem sgt_bits : ∀ t s : Fin 64, IntOp.cmpi CmpIPredicate.sgt (BitVec.ofNat 32 t.val) (BitVec.ofNat 32 s.val) = if s < t then 1#1 else 0#1 := by
  decide +kernel

theorem sge_bits : ∀ t s : Fin 64, IntOp.cmpi CmpIPredicate.sge (BitVec.ofNat 32 t.val) (BitVec.ofNat 32 s.val) = if s ≤ t then 1#1 else 0#1 := by
  decide +kernel

theorem eq_bits : ∀ t s : Fin 64, IntOp.cmpi CmpIPredicate.eq (BitVec.ofNat 32 t.val) (BitVec.ofNat 32 s.val) = if t = s then 1#1 else 0#1 := by
  decide +kernel

theorem Is.below (hx : Is x A) : Is (select (cmpi .sgt rows cols) x zero) (fun t s => if s < t then A t s else 0) := fun t s => by
  pointwise
  rw [sgt_bits, hx]
  by_cases h : s < t
  · rw [if_pos h, if_pos h]; rfl
  · rw [if_neg h, if_neg h]; simp [Scalar.select]

theorem Is.upto (hx : Is x A) : Is (select (cmpi .sge rows cols) x zero) (fun t s => if s ≤ t then A t s else 0) := fun t s => by
  pointwise
  rw [sge_bits, hx]
  by_cases h : s ≤ t
  · rw [if_pos h, if_pos h]; rfl
  · rw [if_neg h, if_neg h]; simp [Scalar.select]
end

/-- The kernel's floor for the decays, a word near 1e-30. -/
def tiny : ℝ := (8388608 + 2245216) * (2 : ℝ) ^ (-123 : ℤ)

theorem tiny_pos : 0 < tiny := by unfold tiny; positivity

theorem ofBits_tiny : Ideal.ofBits FTy.f32 228737632#32 = ((tiny : ℝ) : EReal) := by
  have h1 : (228737632#32).extractLsb' 31 1 = 0#1 := by decide
  have h2 : (228737632#32).extractLsb' 23 8 = 27#8 := by decide
  have h3 : (228737632#32).extractLsb' 0 23 = 2245216#23 := by decide
  simp only [Ideal.ofBits, Ideal.ieee, tiny, h1, h2, h3, Nat.reduceAdd]
  norm_num

section
variable {al : Vec Ideal S1x64x16 .f32} {a : Fin 64 → Fin 16 → ℝ} (ha : ∀ t h, al (ix3 0 t h) = ((a t h : ℝ) : EReal)) (hlo : ∀ t h, tiny ≤ a t h)

/-- The logarithm of the chunk's decay up to each step. -/
def ell (a : Fin 64 → Fin 16 → ℝ) (h : Fin 16) (t : Fin 64) : ℝ := ∑ r, (if r ≤ t then 1 else 0) * Real.log (a r h)

include ha hlo
theorem ell_eq (t : Fin 64) (h : Fin 16) : k0_pay22 al (ix2 t h) = ((ell a h t : ℝ) : EReal) := by
  pointwise [k0_pay22]
  have e : ∀ r, Ideal.log (max ((a r h : ℝ) : EReal) (tiny : ℝ)) = ((Real.log (a r h) : ℝ) : EReal) := fun r => by
    rw [coe_max, max_eq_left (hlo r h), log_coe (tiny_pos.trans_le (hlo r h))]
  have f : ∀ r : Fin 64, FloatOps.sitofp (F := Ideal) FTy.f32 (BitVec.setWidth 32 (if r ≤ t then 1#1 else 0#1)) = ((if r ≤ t then 1 else 0 : ℝ) : EReal) := fun r => by
    show (((BitVec.setWidth 32 _ : BitVec 32).toInt : ℝ) : EReal) = _
    split <;> simp
  simp only [sge_bits, ha, ofBits_tiny, e, f]
  simp only [← EReal.coe_mul, coe_sum, ← EReal.coe_add, zero_add, add_zero]
  rfl

theorem ellT_eq (h : Fin 16) (t : Fin 64) : k0_pay23 al (ix2 h t) = ((ell a h t : ℝ) : EReal) := by
  have f : ∀ r : Fin 64, FloatOps.sitofp (F := Ideal) FTy.f32 (BitVec.setWidth 32 (if r = t then 1#1 else 0#1)) = ((if r = t then 1 else 0 : ℝ) : EReal) := fun r => by
    show (((BitVec.setWidth 32 _ : BitVec 32).toInt : ℝ) : EReal) = _
    split <;> simp
  unfold k0_pay23
  dsimp only
  generalize hg : k0_pay22 al = g
  have hg' : ∀ t h, g (ix2 t h) = ((ell a h t : ℝ) : EReal) := fun t h => hg ▸ ell_eq ha hlo t h
  pointwise
  simp only [eq_bits, hg', f]
  simp only [← EReal.coe_mul, coe_sum, ← EReal.coe_add, zero_add, add_zero, mul_ite, ite_mul, mul_one, one_mul, mul_zero, zero_mul, Finset.sum_ite_eq, Finset.sum_ite_eq', Finset.mem_univ, if_true]
end

/-- `X` loads what the chunk `B` holds. -/
structure Loads (X : In) (B : Blk) : Prop where
  q : ∀ t d, X.q (ix4 0 0 t d) = ((B.q t d : ℝ) : EReal)
  k : ∀ t d, X.k (ix4 0 0 t d) = ((B.k t d : ℝ) : EReal)
  v : ∀ t d, X.v (ix4 0 0 t d) = ((B.v t d : ℝ) : EReal)
  z : ∀ e d, X.z (ix3 X.h e d) = ((B.z e d : ℝ) : EReal)
  b : ∀ t, X.be (ix3 0 t X.h) = ((B.b t : ℝ) : EReal)
  ell : ∀ t, X.ell (ix2 t X.h) = ((B.l t : ℝ) : EReal)
  ellT : ∀ t, X.ellT (ix2 X.h t) = ((B.l t : ℝ) : EReal)

section
variable {X : In} {B : Blk} (L : Loads X B)
include L

theorem Q_is : Is X.Q B.q := fun t d => by
  pointwise [In.Q]
  exact L.q t d

theorem K_is : Is X.K B.k := fun t d => by
  pointwise [In.K]
  exact L.k t d

theorem V_is : Is X.Vv B.v := fun t d => by
  pointwise [In.Vv]
  exact L.v t d

theorem Kt_is : Is X.Kt B.k.transpose := (K_is L).trans

theorem Z_is : Is X.Z B.z := fun e d => by
  pointwise [In.Z]
  exact L.z e d

theorem lc_eq (t : Fin 64) : X.lc (ix2 t 0) = ((B.l t : ℝ) : EReal) := by
  pointwise [In.lc]
  exact L.ell t

theorem lr_eq (t : Fin 64) : X.lr (ix2 0 t) = ((B.l t : ℝ) : EReal) := by
  pointwise [In.lr]
  exact L.ellT t

theorem lC_eq : X.lC (ix2 0 0) = ((B.l 63 : ℝ) : EReal) := by
  pointwise [In.lC]
  exact L.ell 63

theorem B_is : Is X.B (fun t _ => B.b t) := fun t s => by
  pointwise [In.B, In.bc, k0_pay21]
  exact L.b t

theorem D_is : Is X.D (fun t s => Real.exp (B.l t - B.l s)) := fun t s => by
  unfold In.D
  generalize hc : X.lc = c
  generalize hr : X.lr = r
  pointwise
  rw [← hc, ← hr, lc_eq L, lr_eq L, ← EReal.coe_sub, Ideal.exp_coe]

theorem gam_is : Is X.gam (fun t _ => Real.exp (B.l t)) := fun t s => by
  unfold In.gam
  generalize hc : X.lc = c
  pointwise
  rw [← hc, lc_eq L, Ideal.exp_coe]

theorem G_is : Is X.G B.gram := ((((K_is L).mm (Kt_is L)).mul (D_is L)).below).mul (B_is L)

theorem A_is : Is X.A B.attn := (((Q_is L).mm (Kt_is L)).mul (D_is L)).upto

theorem R_is : Is X.R B.rhs := ((V_is L).sub (((K_is L).mul (gam_is L)).mm (Z_is L))).mul (B_is L)

theorem U_is : Is X.U B.sol := by
  have g := G_is L
  have r := R_is L
  have g1 := g.mm g
  have g2 := g1.mm g1
  have g3 := g2.mm g2
  have g4 := g3.mm g3
  have g5 := g4.mm g4
  have u0 := r.sub (g.mm r)
  have u1 := u0.add (g1.mm u0)
  have u2 := u1.add (g2.mm u1)
  have u3 := u2.add (g3.mm u2)
  have u4 := u3.add (g4.mm u3)
  exact u4.add (g5.mm u4)

/-- The head's output. -/
theorem out_is : Is X.out B.out := ((A_is L).mm (U_is L)).add (((Q_is L).mul (gam_is L)).mm (Z_is L))

theorem zend_is : Is (broadcastTo S64x64 (exp X.lC) broadcasts_S1x1_S64x64) (fun _ _ => Real.exp (B.l 63)) := fun t s => by
  generalize hc : X.lC = c
  pointwise
  rw [← hc, lC_eq L, Ideal.exp_coe]

theorem kend_is : Is (broadcastTo S64x64 (exp (subf (broadcastTo S1x64 X.lC broadcasts_S1x1_S1x64) X.lr)) broadcasts_S1x64_S64x64)
    (fun _ s => Real.exp (B.l 63 - B.l s)) := fun t s => by
  generalize hc : X.lC = c
  generalize hr : X.lr = r
  pointwise
  rw [← hc, ← hr, lC_eq L, lr_eq L, ← EReal.coe_sub, Ideal.exp_coe]

/-- The head's state after the chunk. -/
theorem next_is : Is X.next B.next := ((Z_is L).mul (zend_is L)).add (((Kt_is L).mul (kend_is L)).mm (U_is L))
end

section
variable (Y : Chunk)

theorem next_at (h : Fin 16) (e d : Fin 64) : Y.next (ix3 h e d) = (Y.at h).next (ix2 e d) := by
  have e := concatenate_ofFn_apply (t := S16x64x64) (s₁ := S1x64x64) 0 (fun n => shapeCast S1x64x64 (Y.at n).next shapeCasts_S64x64_S1x64x64) concatenates_S1x64x64_S1x64x64_S1x64x64_S1x64x64_S1x64x64_S1x64x64_S1x64x64_S1x64x64_S1x64x64_S1x64x64_S1x64x64_S1x64x64_S1x64x64_S1x64x64_S1x64x64_S1x64x64_S16x64x64_d0
    rfl 1 rfl (ix3 h e d) h (Nat.div_one _) (ix3 0 e d) (Nat.mod_one _).symm fun b hb => by
      fin_cases b
      · exact absurd rfl hb
      · rfl
      · rfl
  unfold Chunk.next
  generalize hC : concatenate S16x64x64 0 _ _ = C
  pointwise
  rw [← hC]
  refine Eq.trans e ?_
  pointwise

theorem out_at (h : Fin 16) (t d : Fin 64) : Y.out (ix2 t (col h d)) = (Y.at h).out (ix2 t d) := by
  exact concatenate_ofFn_apply (t := S64x1024) (s₁ := S64x64) 1 (fun n => (Y.at n).out) concatenates_S64x64_S64x64_S64x64_S64x64_S64x64_S64x64_S64x64_S64x64_S64x64_S64x64_S64x64_S64x64_S64x64_S64x64_S64x64_S64x64_S64x1024_d1
    rfl 64 rfl (ix2 t (col h d)) h (by show (64 * h.val + d.val) / 64 = h.val; omega) (ix2 t d)
    (by show d.val = (64 * h.val + d.val) % 64; omega) fun b hb => by
      fin_cases b
      · rfl
      · exact absurd rfl hb

/-- The projected outputs: the low parts are zero. -/
theorem proj_eq {Y : Chunk} {wh wl : Vec Ideal S1024x1024 .bf16} {o : Fin 64 → Fin 1024 → ℝ} {w : Fin 1024 → Fin 1024 → ℝ}
    (ho : ∀ t x, Y.out (ix2 t x) = ((o t x : ℝ) : EReal)) (hw : ∀ x r, wh (ix2 x r) = ((w x r : ℝ) : EReal))
    (hl : ∀ x r, wl (ix2 x r) = ((0 : ℝ) : EReal)) (t : Fin 64) (r : Fin 1024) :
    Y.proj wh wl (ix3 0 t r) = ((∑ x, o t x * w x r : ℝ) : EReal) := by
  unfold Chunk.proj
  generalize Y.out = g at ho
  pointwise
  simp only [ho, hw, hl, ← EReal.coe_sub, sub_self, ← EReal.coe_mul, zero_mul, mul_zero, coe_sum, Finset.sum_const_zero, ← EReal.coe_add, add_zero, zero_add]
end
end Cert.KernD
end
-- ==== Proof.PointD.lean ====
/- One grid point of the second kernel: what it stores is the chunk's new states and projected outputs, over the loads
   of the point's blocks and the states it starts from. -/
module
public import proofs.«01_k».proof.Proof.KernD
public import Idealize.ShloMosaic.Lib.Pipeline.ValueKit
@[expose] public section
noncomputable section
namespace Cert.PointD
open Cert.DeltaIdeal Cert.DeltaIdeal.Gen Idealize.ShloMosaic Idealize.ShloMosaic.TcCoe Idealize.SL.Sem Cert.Lift Cert.Scan Cert.HeadD Cert.KernD

theorem inb (h : Fin 16) : ∀ a, (![0, h.val, 0, 0] : Fin 4 → ℕ) a + S1x1x64x64.size a ≤ S1x16x64x64.size a := by revert h; decide

/-- A store of the whole scratch, whatever was stored before. -/
theorem scratch_whole (P : Vec Ideal S16x64x64 .f32) (l : List (View.Piece (Elt Ideal) S16x64x64 .f32)) :
    VS0_0.read (Elt Ideal) (VS0_0.writes (Elt Ideal) VS0_0.junk (⟨Rect.unit (s := S16x64x64) ![0, 0, 0] ![16, 64, 64] inb_S16x64x64_S16x64x64_0_0_0, P⟩ :: l)) = P := by
  funext y
  frame_out

/-- A store of the whole output block. -/
theorem block_whole (P : Vec Ideal S1x64x1024 .f32) :
    VO0_7.read (Elt Ideal) (VO0_7.writes (Elt Ideal) VO0_7.junk [⟨Rect.unit (s := S1x64x1024) ![0, 0, 0] ![1, 64, 1024] inb_S1x64x1024_S1x64x1024_0_0_0, P⟩]) = P := by
  funext y
  frame_out

variable (c : Dev nD) (i : grid0.Coords) (arg3 : Memref sig .tc .vmem S1x16x64x64 .f32) (harg3 : arg3.IsWhole) (arg4 : Memref sig .tc .vmem S1x16x64x64 .f32) (harg4 : arg4.IsWhole) (arg5 : Memref sig .tc .vmem S1x16x64x64 .f32) (harg5 : arg5.IsWhole) (arg6 : Memref sig .tc .vmem S1x64x16 .f32) (harg6 : arg6.IsWhole) (arg7 : Memref sig .tc .vmem S1x64x16 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x64x1024 .f32) (harg10 : arg10.IsWhole) (arg11 : Memref sig .tc .vmem S1x16x64x64 .f32) (harg11 : arg11.IsWhole) (arg12 : Memref sig .tc .vmem S16x64x64 .f32) (harg12 : arg12.IsWhole)
  (x0 : Vec Ideal S1x16x64x64 .f32) (x1 : Vec Ideal S1x16x64x64 .f32) (x2 : Vec Ideal S1x16x64x64 .f32) (x3 : Vec Ideal S1x64x16 .f32) (x4 : Vec Ideal S1x64x16 .f32) (x5 : Vec Ideal S1024x1024 .bf16) (x6 : Vec Ideal S1024x1024 .bf16) (z : Vec Ideal S16x64x64 .f32)

/-- The chunk a point computes: the sixteen heads' loads of its blocks, and the states `z`. -/
def chunk : Chunk where
  q h := View.readAt (Elt Ideal) arg3.view (Rect.unit (s := S1x16x64x64) ![0, h.val, 0, 0] S1x1x64x64.size (inb h)).toLoadRect (harg3.unread x0)
  k h := View.readAt (Elt Ideal) arg4.view (Rect.unit (s := S1x16x64x64) ![0, h.val, 0, 0] S1x1x64x64.size (inb h)).toLoadRect (harg4.unread x1)
  v h := View.readAt (Elt Ideal) arg5.view (Rect.unit (s := S1x16x64x64) ![0, h.val, 0, 0] S1x1x64x64.size (inb h)).toLoadRect (harg5.unread x2)
  al := View.readAt (Elt Ideal) arg6.view (Rect.unit (s := S1x64x16) ![0, 0, 0] S1x64x16.size inb_S1x64x16_S1x64x16_0_0_0).toLoadRect (harg6.unread x3)
  be := View.readAt (Elt Ideal) arg7.view (Rect.unit (s := S1x64x16) ![0, 0, 0] S1x64x16.size inb_S1x64x16_S1x64x16_0_0_0).toLoadRect (harg7.unread x4)
  z := z

/-- The output projection's two parts as a point loads them. -/
abbrev wh : Vec Ideal S1024x1024 .bf16 :=
  View.readAt (Elt Ideal) arg8.view (Rect.unit (s := S1024x1024) ![0, 0] S1024x1024.size inb_S1024x1024_S1024x1024_0_0).toLoadRect (harg8.unread x5)
abbrev wl : Vec Ideal S1024x1024 .bf16 :=
  View.readAt (Elt Ideal) arg9.view (Rect.unit (s := S1024x1024) ![0, 0] S1024x1024.size inb_S1024x1024_S1024x1024_0_0).toLoadRect (harg9.unread x6)

set_option maxHeartbeats 8000000 in
theorem next_A (hc0 : cond0_0 i) (hc1 : ¬cond0_1 i) :
    sout0_A_0 (F := Ideal) c i arg3 harg3 arg4 harg4 arg5 harg5 arg6 harg6 arg7 harg7 arg8 harg8 arg9 harg9 arg10 harg10 arg11 harg11 arg12 harg12 hc0 hc1 x0 x1 x2 x3 x4 x5 x6 = (chunk arg3 harg3 arg4 harg4 arg5 harg5 arg6 harg6 arg7 harg7 x0 x1 x2 x3 x4 (kernelRun0_A.sl.v20 (F := Ideal) c arg12)).next := by
  unfold sout0_A_0 kernelRun0_A
  dsimp only
  refine (scratch_whole _ _).trans ?_
  refine Chunk.next_eq (Y := chunk arg3 harg3 arg4 harg4 arg5 harg5 arg6 harg6 arg7 harg7 x0 x1 x2 x3 x4 (kernelRun0_A.sl.v20 (F := Ideal) c arg12)) (.trans ?_ (next_0 _ rfl)) (.trans ?_ (next_1 _ rfl)) (.trans ?_ (next_2 _ rfl)) (.trans ?_ (next_3 _ rfl)) (.trans ?_ (next_4 _ rfl)) (.trans ?_ (next_5 _ rfl)) (.trans ?_ (next_6 _ rfl)) (.trans ?_ (next_7 _ rfl)) (.trans ?_ (next_8 _ rfl)) (.trans ?_ (next_9 _ rfl)) (.trans ?_ (next_10 _ rfl)) (.trans ?_ (next_11 _ rfl)) (.trans ?_ (next_12 _ rfl)) (.trans ?_ (next_13 _ rfl)) (.trans ?_ (next_14 _ rfl)) <;> rfl

set_option maxHeartbeats 8000000 in
theorem out_A (hc0 : cond0_0 i) (hc1 : ¬cond0_1 i) :
    out0_A_7 (F := Ideal) c i arg3 harg3 arg4 harg4 arg5 harg5 arg6 harg6 arg7 harg7 arg8 harg8 arg9 harg9 arg10 harg10 arg11 harg11 arg12 harg12 hc0 hc1 x0 x1 x2 x3 x4 x5 x6 = (chunk arg3 harg3 arg4 harg4 arg5 harg5 arg6 harg6 arg7 harg7 x0 x1 x2 x3 x4 (kernelRun0_A.sl.v20 (F := Ideal) c arg12)).proj (wh arg8 harg8 x5) (wl arg9 harg9 x6) := by
  unfold out0_A_7 kernelRun0_A
  dsimp only
  refine (block_whole _).trans ?_
  refine Chunk.proj_eq (Y := chunk arg3 harg3 arg4 harg4 arg5 harg5 arg6 harg6 arg7 harg7 x0 x1 x2 x3 x4 (kernelRun0_A.sl.v20 (F := Ideal) c arg12)) (wh arg8 harg8 x5) (wl arg9 harg9 x6) (.trans ?_ (out_0 _ rfl)) (.trans ?_ (out_1 _ rfl)) (.trans ?_ (out_2 _ rfl)) (.trans ?_ (out_3 _ rfl)) (.trans ?_ (out_4 _ rfl)) (.trans ?_ (out_5 _ rfl)) (.trans ?_ (out_6 _ rfl)) (.trans ?_ (out_7 _ rfl)) (.trans ?_ (out_8 _ rfl)) (.trans ?_ (out_9 _ rfl)) (.trans ?_ (out_10 _ rfl)) (.trans ?_ (out_11 _ rfl)) (.trans ?_ (out_12 _ rfl)) (.trans ?_ (out_13 _ rfl)) (.trans ?_ (out_14 _ rfl)) <;> rfl

set_option maxHeartbeats 8000000 in
theorem next_B (hc0 : ¬cond0_0 i) (hc1 : ¬cond0_1 i) :
    sout0_B_0 (F := Ideal) c i arg3 harg3 arg4 harg4 arg5 harg5 arg6 harg6 arg7 harg7 arg8 harg8 arg9 harg9 arg10 harg10 arg11 harg11 arg12 harg12 hc0 hc1 x0 x1 x2 x3 x4 x5 x6 z = (chunk arg3 harg3 arg4 harg4 arg5 harg5 arg6 harg6 arg7 harg7 x0 x1 x2 x3 x4 (kernelRun0_B.sl.r_3 (F := Ideal) c arg12 harg12 z)).next := by
  unfold sout0_B_0 kernelRun0_B
  dsimp only
  refine (scratch_whole _ _).trans ?_
  refine Chunk.next_eq (Y := chunk arg3 harg3 arg4 harg4 arg5 harg5 arg6 harg6 arg7 harg7 x0 x1 x2 x3 x4 (kernelRun0_B.sl.r_3 (F := Ideal) c arg12 harg12 z)) (.trans ?_ (next_0 _ rfl)) (.trans ?_ (next_1 _ rfl)) (.trans ?_ (next_2 _ rfl)) (.trans ?_ (next_3 _ rfl)) (.trans ?_ (next_4 _ rfl)) (.trans ?_ (next_5 _ rfl)) (.trans ?_ (next_6 _ rfl)) (.trans ?_ (next_7 _ rfl)) (.trans ?_ (next_8 _ rfl)) (.trans ?_ (next_9 _ rfl)) (.trans ?_ (next_10 _ rfl)) (.trans ?_ (next_11 _ rfl)) (.trans ?_ (next_12 _ rfl)) (.trans ?_ (next_13 _ rfl)) (.trans ?_ (next_14 _ rfl)) <;> rfl

set_option maxHeartbeats 8000000 in
theorem out_B (hc0 : ¬cond0_0 i) (hc1 : ¬cond0_1 i) :
    out0_B_7 (F := Ideal) c i arg3 harg3 arg4 harg4 arg5 harg5 arg6 harg6 arg7 harg7 arg8 harg8 arg9 harg9 arg10 harg10 arg11 harg11 arg12 harg12 hc0 hc1 x0 x1 x2 x3 x4 x5 x6 z = (chunk arg3 harg3 arg4 harg4 arg5 harg5 arg6 harg6 arg7 harg7 x0 x1 x2 x3 x4 (kernelRun0_B.sl.r_3 (F := Ideal) c arg12 harg12 z)).proj (wh arg8 harg8 x5) (wl arg9 harg9 x6) := by
  unfold out0_B_7 kernelRun0_B
  dsimp only
  refine (block_whole _).trans ?_
  refine Chunk.proj_eq (Y := chunk arg3 harg3 arg4 harg4 arg5 harg5 arg6 harg6 arg7 harg7 x0 x1 x2 x3 x4 (kernelRun0_B.sl.r_3 (F := Ideal) c arg12 harg12 z)) (wh arg8 harg8 x5) (wl arg9 harg9 x6) (.trans ?_ (out_0 _ rfl)) (.trans ?_ (out_1 _ rfl)) (.trans ?_ (out_2 _ rfl)) (.trans ?_ (out_3 _ rfl)) (.trans ?_ (out_4 _ rfl)) (.trans ?_ (out_5 _ rfl)) (.trans ?_ (out_6 _ rfl)) (.trans ?_ (out_7 _ rfl)) (.trans ?_ (out_8 _ rfl)) (.trans ?_ (out_9 _ rfl)) (.trans ?_ (out_10 _ rfl)) (.trans ?_ (out_11 _ rfl)) (.trans ?_ (out_12 _ rfl)) (.trans ?_ (out_13 _ rfl)) (.trans ?_ (out_14 _ rfl)) <;> rfl

set_option maxHeartbeats 8000000 in
theorem next_C (hc0 : ¬cond0_0 i) (hc1 : cond0_1 i) :
    sout0_C_0 (F := Ideal) c i arg3 harg3 arg4 harg4 arg5 harg5 arg6 harg6 arg7 harg7 arg8 harg8 arg9 harg9 arg10 harg10 arg11 harg11 arg12 harg12 hc0 hc1 x0 x1 x2 x3 x4 x5 x6 z = (chunk arg3 harg3 arg4 harg4 arg5 harg5 arg6 harg6 arg7 harg7 x0 x1 x2 x3 x4 (kernelRun0_C.sl.r_3 (F := Ideal) c arg12 harg12 z)).next := by
  unfold sout0_C_0 kernelRun0_C
  dsimp only
  refine (scratch_whole _ _).trans ?_
  refine Chunk.next_eq (Y := chunk arg3 harg3 arg4 harg4 arg5 harg5 arg6 harg6 arg7 harg7 x0 x1 x2 x3 x4 (kernelRun0_C.sl.r_3 (F := Ideal) c arg12 harg12 z)) (.trans ?_ (next_0 _ rfl)) (.trans ?_ (next_1 _ rfl)) (.trans ?_ (next_2 _ rfl)) (.trans ?_ (next_3 _ rfl)) (.trans ?_ (next_4 _ rfl)) (.trans ?_ (next_5 _ rfl)) (.trans ?_ (next_6 _ rfl)) (.trans ?_ (next_7 _ rfl)) (.trans ?_ (next_8 _ rfl)) (.trans ?_ (next_9 _ rfl)) (.trans ?_ (next_10 _ rfl)) (.trans ?_ (next_11 _ rfl)) (.trans ?_ (next_12 _ rfl)) (.trans ?_ (next_13 _ rfl)) (.trans ?_ (next_14 _ rfl)) <;> rfl

set_option maxHeartbeats 8000000 in
theorem out_C (hc0 : ¬cond0_0 i) (hc1 : cond0_1 i) :
    out0_C_7 (F := Ideal) c i arg3 harg3 arg4 harg4 arg5 harg5 arg6 harg6 arg7 harg7 arg8 harg8 arg9 harg9 arg10 harg10 arg11 harg11 arg12 harg12 hc0 hc1 x0 x1 x2 x3 x4 x5 x6 z = (chunk arg3 harg3 arg4 harg4 arg5 harg5 arg6 harg6 arg7 harg7 x0 x1 x2 x3 x4 (kernelRun0_C.sl.r_3 (F := Ideal) c arg12 harg12 z)).proj (wh arg8 harg8 x5) (wl arg9 harg9 x6) := by
  unfold out0_C_7 kernelRun0_C
  dsimp only
  refine (block_whole _).trans ?_
  refine Chunk.proj_eq (Y := chunk arg3 harg3 arg4 harg4 arg5 harg5 arg6 harg6 arg7 harg7 x0 x1 x2 x3 x4 (kernelRun0_C.sl.r_3 (F := Ideal) c arg12 harg12 z)) (wh arg8 harg8 x5) (wl arg9 harg9 x6) (.trans ?_ (out_0 _ rfl)) (.trans ?_ (out_1 _ rfl)) (.trans ?_ (out_2 _ rfl)) (.trans ?_ (out_3 _ rfl)) (.trans ?_ (out_4 _ rfl)) (.trans ?_ (out_5 _ rfl)) (.trans ?_ (out_6 _ rfl)) (.trans ?_ (out_7 _ rfl)) (.trans ?_ (out_8 _ rfl)) (.trans ?_ (out_9 _ rfl)) (.trans ?_ (out_10 _ rfl)) (.trans ?_ (out_11 _ rfl)) (.trans ?_ (out_12 _ rfl)) (.trans ?_ (out_13 _ rfl)) (.trans ?_ (out_14 _ rfl)) <;> rfl

end Cert.PointD
end
-- ==== Proof.ReadD.lean ====
/- What a grid point of the second kernel reads and stores, element by element. -/
module
public import proofs.«01_k».proof.Proof.PointD
public import Idealize.ShloMosaic.Lib.Pipeline.ReadBack
@[expose] public section
noncomputable section
namespace Cert.ReadD
open Cert.DeltaIdeal Cert.DeltaIdeal.Gen Idealize.ShloMosaic Idealize.ShloMosaic.TcCoe Idealize.SL.Sem Cert.Lift Cert.Scan Cert.HeadD Cert.KernD Cert.PointD

theorem inz (h : Fin 16) : ∀ a, (![h.val, 0, 0] : Fin 3 → ℕ) a + S1x64x64.size a ≤ S16x64x64.size a := by revert h; decide

/-- A head's states, loaded back after the whole scratch is stored. -/
theorem load_eq (arg12 : Memref sig .tc .vmem S16x64x64 .f32) (P : Vec Ideal S16x64x64 .f32) (h : Fin 16) :
    arg12.view.readCov (Val := Elt Ideal) [⟨Rect.unit (s := S16x64x64) ![0, 0, 0] S16x64x64.size inb_S16x64x64_S16x64x64_0_0_0, P⟩]
      (Rect.unit (s := S16x64x64) ![h.val, 0, 0] S1x64x64.size (inz h)).toLoadRect = fun y : S1x64x64.Idx => P (ix3 h (y 1) (y 2)) := by
  funext y
  rw [View.readCov_fill _ _ _ _ _ (by decide)]
  pointwise

/-- The sixteen stores of the final states, together. -/
def stores (L : Fin 16 → Vec Ideal S1x64x64 .f32) : List (View.Piece (Elt Ideal) S1x16x64x64 .f32) :=
  [⟨Rect.unit (s := S1x16x64x64) ![0, 15, 0, 0] ![1, 1, 64, 64] inb_S1x16x64x64_S1x1x64x64_0_15_0_0, k0_pay5 (L 15)⟩,
      ⟨Rect.unit (s := S1x16x64x64) ![0, 14, 0, 0] ![1, 1, 64, 64] inb_S1x16x64x64_S1x1x64x64_0_14_0_0, k0_pay4 (L 14)⟩,
      ⟨Rect.unit (s := S1x16x64x64) ![0, 13, 0, 0] ![1, 1, 64, 64] inb_S1x16x64x64_S1x1x64x64_0_13_0_0, k0_pay3 (L 13)⟩,
      ⟨Rect.unit (s := S1x16x64x64) ![0, 12, 0, 0] ![1, 1, 64, 64] inb_S1x16x64x64_S1x1x64x64_0_12_0_0, k0_pay2 (k0_pay19 (L 12))⟩,
      ⟨Rect.unit (s := S1x16x64x64) ![0, 11, 0, 0] ![1, 1, 64, 64] inb_S1x16x64x64_S1x1x64x64_0_11_0_0, k0_pay18 (L 11)⟩,
      ⟨Rect.unit (s := S1x16x64x64) ![0, 10, 0, 0] ![1, 1, 64, 64] inb_S1x16x64x64_S1x1x64x64_0_10_0_0, k0_pay17 (L 10)⟩,
      ⟨Rect.unit (s := S1x16x64x64) ![0, 9, 0, 0] ![1, 1, 64, 64] inb_S1x16x64x64_S1x1x64x64_0_9_0_0, k0_pay16 (L 9)⟩,
      ⟨Rect.unit (s := S1x16x64x64) ![0, 8, 0, 0] ![1, 1, 64, 64] inb_S1x16x64x64_S1x1x64x64_0_8_0_0, k0_pay15 (k0_pay14 (L 8))⟩,
      ⟨Rect.unit (s := S1x16x64x64) ![0, 7, 0, 0] ![1, 1, 64, 64] inb_S1x16x64x64_S1x1x64x64_0_7_0_0, k0_pay13 (L 7)⟩,
      ⟨Rect.unit (s := S1x16x64x64) ![0, 6, 0, 0] ![1, 1, 64, 64] inb_S1x16x64x64_S1x1x64x64_0_6_0_0, k0_pay12 (L 6)⟩,
      ⟨Rect.unit (s := S1x16x64x64) ![0, 5, 0, 0] ![1, 1, 64, 64] inb_S1x16x64x64_S1x1x64x64_0_5_0_0, k0_pay11 (L 5)⟩,
      ⟨Rect.unit (s := S1x16x64x64) ![0, 4, 0, 0] ![1, 1, 64, 64] inb_S1x16x64x64_S1x1x64x64_0_4_0_0, k0_pay10 (L 4)⟩,
      ⟨Rect.unit (s := S1x16x64x64) ![0, 3, 0, 0] ![1, 1, 64, 64] inb_S1x16x64x64_S1x1x64x64_0_3_0_0, k0_pay9 (L 3)⟩,
      ⟨Rect.unit (s := S1x16x64x64) ![0, 2, 0, 0] ![1, 1, 64, 64] inb_S1x16x64x64_S1x1x64x64_0_2_0_0, k0_pay8 (L 2)⟩,
      ⟨Rect.unit (s := S1x16x64x64) ![0, 1, 0, 0] ![1, 1, 64, 64] inb_S1x16x64x64_S1x1x64x64_0_1_0_0, k0_pay7 (L 1)⟩,
      ⟨Rect.unit (s := S1x16x64x64) ![0, 0, 0, 0] ![1, 1, 64, 64] inb_S1x16x64x64_S1x1x64x64_0_0_0_0, k0_pay6 (L 0)⟩]

/-- They hold the transposed states. -/
theorem stores_eq (P : Vec Ideal S16x64x64 .f32) (y : S1x16x64x64.Idx) (h : Fin 16) (d e : Fin 64) (hh : (y 1 : ℕ) = h) (hd : (y 2 : ℕ) = d) (he : (y 3 : ℕ) = e) :
    VO0_8.read (Elt Ideal) (VO0_8.writes (Elt Ideal) VO0_8.junk (stores fun h => fun y : S1x64x64.Idx => P (ix3 h (y 1) (y 2)))) y = P (ix3 h e d) := by
  rw [View.read_writes_junk_eq_canon]
  unfold stores
  canon_tiles x h
  all_goals (open_payloads; pointwise; blk_ext)

theorem stored_eq (arg12 : Memref sig .tc .vmem S16x64x64 .f32) (P : Vec Ideal S16x64x64 .f32) (h : Fin 16) (d e : Fin 64) :
    VO0_8.read (Elt Ideal) (VO0_8.writes (Elt Ideal) VO0_8.junk (stores fun h =>
      arg12.view.readCov (Val := Elt Ideal) [⟨Rect.unit (s := S16x64x64) ![0, 0, 0] S16x64x64.size inb_S16x64x64_S16x64x64_0_0_0, P⟩]
        (Rect.unit (s := S16x64x64) ![h.val, 0, 0] S1x64x64.size (inz h)).toLoadRect)) (ix4 0 h d e) = P (ix3 h e d) := by
  rw [funext (load_eq arg12 P)]
  exact stores_eq P (ix4 0 h d e) h d e rfl rfl rfl

variable (c : Dev nD) (i : grid0.Coords) (arg3 : Memref sig .tc .vmem S1x16x64x64 .f32) (harg3 : arg3.IsWhole) (arg4 : Memref sig .tc .vmem S1x16x64x64 .f32) (harg4 : arg4.IsWhole) (arg5 : Memref sig .tc .vmem S1x16x64x64 .f32) (harg5 : arg5.IsWhole) (arg6 : Memref sig .tc .vmem S1x64x16 .f32) (harg6 : arg6.IsWhole) (arg7 : Memref sig .tc .vmem S1x64x16 .f32) (harg7 : arg7.IsWhole) (arg8 : Memref sig .tc .vmem S1024x1024 .bf16) (harg8 : arg8.IsWhole) (arg9 : Memref sig .tc .vmem S1024x1024 .bf16) (harg9 : arg9.IsWhole) (arg10 : Memref sig .tc .vmem S1x64x1024 .f32) (harg10 : arg10.IsWhole) (arg11 : Memref sig .tc .vmem S1x16x64x64 .f32) (harg11 : arg11.IsWhole) (arg12 : Memref sig .tc .vmem S16x64x64 .f32) (harg12 : arg12.IsWhole)
  (x0 : Vec Ideal S1x16x64x64 .f32) (x1 : Vec Ideal S1x16x64x64 .f32) (x2 : Vec Ideal S1x16x64x64 .f32) (x3 : Vec Ideal S1x64x16 .f32) (x4 : Vec Ideal S1x64x16 .f32) (x5 : Vec Ideal S1024x1024 .bf16) (x6 : Vec Ideal S1024x1024 .bf16) (z : Vec Ideal S16x64x64 .f32)

theorem fin_C (hc0 : ¬cond0_0 i) (hc1 : cond0_1 i) (h : Fin 16) (d e : Fin 64) :
    out0_C_8 (F := Ideal) c i arg3 harg3 arg4 harg4 arg5 harg5 arg6 harg6 arg7 harg7 arg8 harg8 arg9 harg9 arg10 harg10 arg11 harg11 arg12 harg12 hc0 hc1 x0 x1 x2 x3 x4 x5 x6 z (ix4 0 h d e) = sout0_C_0 (F := Ideal) c i arg3 harg3 arg4 harg4 arg5 harg5 arg6 harg6 arg7 harg7 arg8 harg8 arg9 harg9 arg10 harg10 arg11 harg11 arg12 harg12 hc0 hc1 x0 x1 x2 x3 x4 x5 x6 z (ix3 h e d) := by
  unfold out0_C_8 sout0_C_0 kernelRun0_C
  dsimp only
  refine Eq.trans ?_ (congrFun (scratch_whole _ _).symm _)
  refine Eq.trans ?_ (stored_eq arg12 _ h d e)
  rfl

theorem heads_apply (a : Memref sig .tc .vmem S1x16x64x64 .f32) (ha : a.IsWhole) (x : Vec Ideal S1x16x64x64 .f32) (h : Fin 16) (t d : Fin 64) :
    View.readAt (Elt Ideal) a.view (Rect.unit (s := S1x16x64x64) ![0, h.val, 0, 0] S1x1x64x64.size (inb h)).toLoadRect (ha.unread x) (ix4 0 0 t d) = x (ix4 0 h t d) := by
  rw [View.readAt_eq_ld, Memref.IsWhole.read_unread]
  pointwise

theorem gates_apply (a : Memref sig .tc .vmem S1x64x16 .f32) (ha : a.IsWhole) (x : Vec Ideal S1x64x16 .f32) (t : Fin 64) (h : Fin 16) :
    View.readAt (Elt Ideal) a.view (Rect.unit (s := S1x64x16) ![0, 0, 0] S1x64x16.size inb_S1x64x16_S1x64x16_0_0_0).toLoadRect (ha.unread x) (ix3 0 t h) = x (ix3 0 t h) := by
  rw [View.readAt_eq_ld, Memref.IsWhole.read_unread]
  pointwise

theorem weights_apply (a : Memref sig .tc .vmem S1024x1024 .bf16) (ha : a.IsWhole) (x : Vec Ideal S1024x1024 .bf16) (r s : Fin 1024) :
    View.readAt (Elt Ideal) a.view (Rect.unit (s := S1024x1024) ![0, 0] S1024x1024.size inb_S1024x1024_S1024x1024_0_0).toLoadRect (ha.unread x) (ix2 r s) = x (ix2 r s) := by
  rw [View.readAt_eq_ld, Memref.IsWhole.read_unread]
  pointwise

theorem states_B : kernelRun0_B.sl.r_3 (F := Ideal) c arg12 harg12 z = z := by
  unfold kernelRun0_B.sl.r_3
  rw [View.readAt_eq_ld, Memref.IsWhole.read_unread]
  exact View.ld_unit_lit' _ _ (by decide)

theorem states_C : kernelRun0_C.sl.r_3 (F := Ideal) c arg12 harg12 z = z := states_B c arg12 harg12 z

theorem states_A : kernelRun0_A.sl.v20 (F := Ideal) c arg12 = k0_pay20 (F := Ideal) := by
  unfold kernelRun0_A.sl.v20 kernelRun0_A.sl.HS0_1
  exact View.readCov_cons_unit_lit' _ _ _ _ _ (by decide) (by decide)

end Cert.ReadD
end
-- ==== Proof.FinD.lean ====
/- The second kernel's final arrays: chunk by chunk, a sequence's states and outputs are those of the recurrence. -/
module
public import proofs.«01_k».proof.Proof.BlkD
public import proofs.«01_k».proof.Proof.ReadD
@[expose] public section
noncomputable section
namespace Cert.FinD
open Cert.DeltaIdeal Cert.DeltaIdeal.Gen Idealize.ShloMosaic Idealize.ShloMosaic.TcCoe Idealize.SL.Sem Cert.Lift Cert.Scan Cert.HeadD Cert.KernD Cert.PointD Cert.ReadD

/-- The chunk of 64 steps of one head from step `n` on. -/
def blk (H : Seq) (n : ℕ) : Blk where
  q t d := H.q (n + t) d
  k t d := H.k (n + t) d
  v t d := H.v (n + t) d
  z e d := H.state 0 n d e
  l t := ∑ r : Fin 64, (if r ≤ t then 1 else 0) * Real.log (H.a (n + r))
  b t := H.b (n + t)

theorem reads {H : Seq} (pos : ∀ t, 0 < H.a t) (n : ℕ) : Reads (blk H n) (H.drop n) (H.state 0 n) where
  q _ _ := rfl
  k _ _ := rfl
  v _ _ := rfl
  z _ _ := rfl
  b _ := rfl
  l t := by
    have e : (∑ r : Fin 64, (if r ≤ t then 1 else 0) * Real.log (H.a (n + r))) = ∑ r ∈ Finset.range (t + 1), Real.log (H.a (n + r)) := by
      rw [← sum_lt (fun r => Real.log (H.a (n + r))) (Nat.succ_le_of_lt t.isLt)]
      refine Finset.sum_congr rfl fun r _ => ?_
      by_cases hr : r ≤ t
      · rw [if_pos hr, if_pos (show (r : ℕ) < t.val.succ from Nat.lt_succ_of_le hr), one_mul]
      · rw [if_neg hr, if_neg (show ¬(r : ℕ) < t.val.succ from fun h => hr (Nat.le_of_lt_succ h)), zero_mul]
    show Real.exp (∑ r : Fin 64, (if r ≤ t then 1 else 0) * Real.log (H.a (n + r))) = ∏ r ∈ Finset.range (t + 1), H.a (n + r)
    rw [e, Real.exp_sum]
    exact Finset.prod_congr rfl fun r _ => Real.exp_log (pos _)
  ne k := Finset.prod_ne_zero_iff.2 fun r _ => (pos _).ne'

variable (m : (ℓ : Loc nD τ sig) → Buf (Elt Ideal) ℓ) (c : Dev nD) (H : Fin 8 → Fin 16 → Seq) (w : Fin 1024 → Fin 1024 → ℝ)

/-- The arguments hold the sequences `H` and the weights `w`. -/
structure Holds : Prop where
  q : ∀ b h (t : Fin 2048) d, m ((c : Thread nD τ).loc main_arg0) (ix4 b h t d) = (((H b h).q t d : ℝ) : EReal)
  k : ∀ b h (t : Fin 2048) d, m ((c : Thread nD τ).loc main_arg1) (ix4 b h t d) = (((H b h).k t d : ℝ) : EReal)
  v : ∀ b h (t : Fin 2048) d, m ((c : Thread nD τ).loc main_arg2) (ix4 b h t d) = (((H b h).v t d : ℝ) : EReal)
  a : ∀ b (t : Fin 2048) h, m ((c : Thread nD τ).loc main_arg3) (ix3 b t h) = (((H b h).a t : ℝ) : EReal)
  b : ∀ b (t : Fin 2048) h, m ((c : Thread nD τ).loc main_arg4) (ix3 b t h) = (((H b h).b t : ℝ) : EReal)
  w : ∀ r s, m ((c : Thread nD τ).loc main_arg5) (ix2 r s) = ((w r s : ℝ) : EReal)
  lo : ∀ b h t, tiny ≤ (H b h).a t

/-- The chunk of a grid point, from the states `z`. -/
abbrev Y (t : Fin cfg0.N) (z : Vec Ideal S16x64x64 .f32) : Chunk :=
  chunk (ms0_0 t) (hs0_0 t) (ms0_1 t) (hs0_1 t) (ms0_2 t) (hs0_2 t) (ms0_3 t) (hs0_3 t) (ms0_4 t) (hs0_4 t)
    (iblk m c 0 t) (iblk m c 1 t) (iblk m c 2 t) (iblk m c 3 t) (iblk m c 4 t) z

/-- A grid point's sequence and first step. -/
abbrev bat (t : Fin cfg0.N) : Fin 8 := ⟨t.val / 32, BlkD.lt8 t⟩
abbrev off (t : Fin cfg0.N) : ℕ := t.val % 32 * 64

theorem step_lt (t : Fin cfg0.N) (r : Fin 64) : t.val % 32 * 64 + r.val < 2048 := by omega

/-- `z` holds the states of the point's sequence before step `n`, transposed. -/
def At (t : Fin cfg0.N) (n : ℕ) (z : Vec Ideal S16x64x64 .f32) : Prop :=
  ∀ h e d, z (ix3 h e d) = (((H (bat t) h).state 0 n d e : ℝ) : EReal)

variable {m c H w} (A : Holds m c H w) {t : Fin cfg0.N} {z : Vec Ideal S16x64x64 .f32} (hz : At H t (off t) z)
include A

theorem pos (b : Fin 8) (h : Fin 16) (t : ℕ) : 0 < (H b h).a t := tiny_pos.trans_le (A.lo b h t)

include hz

theorem loads (h : Fin 16) : Loads ((Y m c t z).at h) (blk (H (bat t) h) (off t)) where
  q r d := (heads_apply _ _ _ h r d).trans ((BlkD.blk0 m c t h r d).trans (A.q _ _ _ _))
  k r d := (heads_apply _ _ _ h r d).trans ((BlkD.blk1 m c t h r d).trans (A.k _ _ _ _))
  v r d := (heads_apply _ _ _ h r d).trans ((BlkD.blk2 m c t h r d).trans (A.v _ _ _ _))
  z e d := hz h e d
  b r := (gates_apply _ _ _ r h).trans ((BlkD.blk4 m c t r h).trans (A.b _ _ _))
  ell r := ell_eq (a := fun r h => (H (bat t) h).a (off t + r)) (fun r h => (gates_apply _ _ _ r h).trans ((BlkD.blk3 m c t r h).trans (A.a _ _ _)))
    (fun r h => A.lo _ _ _) r h
  ellT r := ellT_eq (a := fun r h => (H (bat t) h).a (off t + r)) (fun r h => (gates_apply _ _ _ r h).trans ((BlkD.blk3 m c t r h).trans (A.a _ _ _)))
    (fun r h => A.lo _ _ _) h r

theorem next_val : At H t (off t + 64) (Y m c t z).next := fun h e d => by
  rw [next_at, next_is (loads A hz h) e d, (reads (pos A _ h) _).next, Seq.state_add]

/-- The row of heads' outputs of one step. -/
def outs (H : Fin 8 → Fin 16 → Seq) (b : Fin 8) (t : ℕ) (x : Fin 1024) : ℝ := (H b (head x)).out 0 t ⟨x % 64, Nat.mod_lt _ (by decide)⟩

theorem out_val (r : Fin 64) (x : Fin 1024) : (Y m c t z).out (ix2 r x) = ((outs H (bat t) (off t + r) x : ℝ) : EReal) := by
  have e : x = col (head x) ⟨x % 64, Nat.mod_lt _ (by decide)⟩ := Fin.ext (by show x.val = 64 * (x.val / 64) + x.val % 64; omega)
  conv_lhs => rw [e]
  rw [out_at, out_is (loads A hz _) r _, (reads (pos A _ _) _).out, outs, Seq.out_add]

theorem proj_val (r : Fin 64) (s : Fin 1024) :
    (Y m c t z).proj (wh (ms0_5 t) (hs0_5 t) (iblk m c 5 t)) (wl (ms0_6 t) (hs0_6 t) (iblk m c 6 t)) (ix3 0 r s)
      = ((∑ x, outs H (bat t) (off t + r) x * w s x : ℝ) : EReal) :=
  proj_eq (w := fun x r => w r x) (out_val A hz) (fun x r => (weights_apply _ _ _ x r).trans ((BlkD.blk5 m c t x r).trans (A.w _ _)))
    (fun x r => (weights_apply _ _ _ x r).trans (BlkD.blk6 m c t x r (A.w _ _))) r s

omit A hz

/-- What a grid point leaves. -/
structure Left (m : (ℓ : Loc nD τ sig) → Buf (Elt Ideal) ℓ) (c : Dev nD) (H : Fin 8 → Fin 16 → Seq) (w : Fin 1024 → Fin 1024 → ℝ) (t : Fin cfg0.N) : Prop where
  z : At H t (off t + 64) (outsAt0 m c t.val t.isLt).2.2
  o : ∀ r s, (outsAt0 m c t.val t.isLt).1 (ix3 0 r s) = ((∑ x, outs H (bat t) (off t + r) x * w s x : ℝ) : EReal)
  s : t.val % 32 = 31 → ∀ h d e, (outsAt0 m c t.val t.isLt).2.1 (ix4 0 h d e) = (((H (bat t) h).state 0 2048 d e : ℝ) : EReal)

include A

theorem first (h0 : t.val % 32 = 0) : Left m c H w t := by
  have h1 : ¬t.val % 32 = 31 := by omega
  have hz : At H t (off t) (k0_pay20 (F := Ideal)) := fun h e d => by
    have e0 : off t = 0 := by show t.val % 32 * 64 = 0; omega
    rw [e0]
    refine Eq.trans ?_ EReal.coe_zero.symm
    pointwise [k0_pay20]
  refine ⟨?_, ?_, fun h => absurd h h1⟩ <;> rw [outsAt0_A m c t h0 h1] <;> dsimp only
  · rw [next_A, states_A]
    exact next_val A hz
  · rw [out_A, states_A]
    exact proj_val A hz

theorem later (h0 : ¬t.val % 32 = 0) (hz : At H t (off t) (outsAt0 m c (t.val - 1) (Nat.lt_of_le_of_lt (Nat.sub_le _ _) t.isLt)).2.2) : Left m c H w t := by
  by_cases h1 : t.val % 32 = 31
  · have hn := next_val A hz
    refine ⟨?_, ?_, fun _ h d e => ?_⟩ <;> rw [outsAt0_C m c t h0 h1] <;> dsimp only
    · rw [next_C, states_C]
      exact hn
    · rw [out_C, states_C]
      exact proj_val A hz
    · rw [fin_C, next_C, states_C, hn h e d]
      have e1 : off t + 64 = 2048 := by show t.val % 32 * 64 + 64 = 2048; omega
      rw [e1]
  · refine ⟨?_, ?_, fun h => absurd h h1⟩ <;> rw [outsAt0_B m c t h0 h1] <;> dsimp only
    · rw [next_B, states_B]
      exact next_val A hz
    · rw [out_B, states_B]
      exact proj_val A hz

theorem left : ∀ (n : ℕ) (hn : n < cfg0.N), Left m c H w ⟨n, hn⟩
  | 0, hn => first A rfl
  | n + 1, hn => by
    by_cases h0 : (n + 1) % 32 = 0
    · exact first A h0
    · refine later A h0 fun h e d => ?_
      have L := (left n (by omega)).z h e d
      have e1 : (⟨n / 32, BlkD.lt8 ⟨n, by omega⟩⟩ : Fin 8) = ⟨(n + 1) / 32, BlkD.lt8 ⟨n + 1, hn⟩⟩ := Fin.ext (by show n / 32 = (n + 1) / 32; omega)
      have e2 : n % 32 * 64 + 64 = (n + 1) % 32 * 64 := by omega
      simp only [bat, off] at L ⊢
      rw [← e1, ← e2]
      exact L

/-- The outputs: a grid point's block, then the whole array. -/
theorem point7 {G : S8x2048x1024.Idx → EReal} (hG : ∀ b (t : Fin 2048) r, G (ix3 b t r) = ((∑ x, outs H b t x * w r x : ℝ) : EReal))
    (t : Fin cfg0.N) (y : S1x64x1024.Idx) (r : Fin 64) (s : Fin 1024) (hr : (y 1 : ℕ) = r) (hs : (y 2 : ℕ) = s) :
    (outsAt0 m c t.val t.isLt).1 y = G (ix3 (bat t) ⟨t.val % 32 * 64 + r.val, step_lt t r⟩ s) := by
  have e : y = ix3 0 r s := by blk_ext
  rw [hG, e]
  exact (left A t.val t.isLt).o r s

theorem final7 (G : S8x2048x1024.Idx → EReal) (hG : ∀ b (t : Fin 2048) r, G (ix3 b t r) = ((∑ x, outs H b t x * w r x : ℝ) : EReal)) :
    (dats m 0 c).arrAt 7 cfg0.N = G := by
  refine (dats m 0 c).arrAt_eq_of_covers 7 _ (by decide +kernel) fun t hf y => ?_
  blk_simp
  rw [after0_7]
  refine (point7 A hG t y (y 1) (y 2) rfl rfl).trans (congrArg G ?_)
  blk_ext [BlkD.oidx t]

/-- The final states: the last block of every sequence, then the whole array. -/
theorem point8 {G : S8x16x64x64.Idx → EReal} (hG : ∀ b h d e, G (ix4 b h d e) = (((H b h).state 0 2048 d e : ℝ) : EReal))
    (t : Fin cfg0.N) (h31 : t.val % 32 = 31) (y : S1x16x64x64.Idx) (h : Fin 16) (d e : Fin 64) (hh : (y 1 : ℕ) = h) (hd : (y 2 : ℕ) = d) (he : (y 3 : ℕ) = e) :
    (outsAt0 m c t.val t.isLt).2.1 y = G (ix4 (bat t) h d e) := by
  have hy : y = ix4 0 h d e := by blk_ext
  subst hy
  exact ((left A t.val t.isLt).s h31 h d e).trans (hG _ _ _ _).symm

theorem final8 (G : S8x16x64x64.Idx → EReal) (hG : ∀ b h d e, G (ix4 b h d e) = (((H b h).state 0 2048 d e : ℝ) : EReal)) :
    (dats m 0 c).arrAt 8 cfg0.N = G := by
  refine (dats m 0 c).arrAt_eq_of_covers 8 _ (by decide +kernel) fun t hf y => ?_
  have h31 : t.val % 32 = 31 := (flush0_8 t).mp hf
  blk_simp
  rw [after0_8]
  refine (point8 A hG t h31 y (y 1) (y 2) (y 3) rfl rfl rfl).trans (congrArg G ?_)
  blk_ext [BlkD.oidx t]

end Cert.FinD
end
-- ==== Proof.PreD.lean ====
/- What the precondition says of the second call's arguments: every element is a real number, and the decays are at least the
   kernel's floor under them. -/
module
public import proofs.«01_k».proof.Pre_delta_inputs
public import proofs.«01_k».proof.Proof.Gen.Pre_delta_inputs
public import proofs.«01_k».proof.Proof.KernD
@[expose] public section
noncomputable section
namespace Cert.Pre_delta_inputs
open Idealize.ShloMosaic Cert.Pre_delta_inputs.Gen Cert.KernD

instance : Subsingleton S_.Idx := ⟨fun _ _ => funext fun k => k.elim0⟩

/-- Every element of an array is a real number. -/
abbrev Real {s : Shape} (x : (⟨s, .f32⟩ : BufTy).Contents (Elt Ideal)) : Prop := ∃ f : s.Idx → ℝ, ∀ i, x i = ((f i : ℝ) : EReal)

theorem floor_of_ge {x : EReal} (h : FloatOps.cmpf (F := Ideal) (φ := .f32) .oge x (FloatOps.ofBits (F := Ideal) .f32 228737632#32) = 1#1) :
    ((tiny : ℝ) : EReal) ≤ x := by
  have h : BitVec.ofBool (decide (x ≥ Ideal.ofBits FTy.f32 228737632#32)) = 1#1 := h
  rw [ofBits_tiny] at h
  by_contra hn
  rw [decide_eq_false hn] at h
  exact absurd h (by decide)

theorem of_pre {x0 x1 x2 : (⟨S8x16x2048x64, .f32⟩ : BufTy).Contents (Elt Ideal)} {x3 x4 : (⟨S8x2048x16, .f32⟩ : BufTy).Contents (Elt Ideal)} {x5 : (⟨S1024x1024, .f32⟩ : BufTy).Contents (Elt Ideal)}
    (h : fn (F := Ideal) x0 x1 x2 x3 x4 x5 = fun _ => 1#1) :
    Real x0 ∧ Real x1 ∧ Real x2 ∧ Real x3 ∧ Real x4 ∧ Real x5 ∧ ∀ i, ((tiny : ℝ) : EReal) ≤ x3 i := by
  have h := congrFun h ix0
  unfold fn fn_part1 fn_part2 at h
  dsimp only at h
  simp only [andi_apply, IntOp.andi_eq_one] at h
  obtain ⟨⟨⟨⟨⟨⟨⟨-, h0⟩, h1⟩, h2⟩, h3⟩, h4⟩, h5⟩, h6⟩ := h
  exact ⟨Cert.Lift.real_of_all _ _ _ _ _ _ _ h0, Cert.Lift.real_of_all _ _ _ _ _ _ _ h1, Cert.Lift.real_of_all _ _ _ _ _ _ _ h2, Cert.Lift.real_of_all _ _ _ _ _ _ _ h3, Cert.Lift.real_of_all _ _ _ _ _ _ _ h4, Cert.Lift.real_of_all _ _ _ _ _ _ _ h5,
    fun i => floor_of_ge (Host.reduce_andi_all _ _ _ _ _ h6 i)⟩

end Cert.Pre_delta_inputs
end
-- ==== Proof.AlgD.lean ====
/- The second call and its reference end with equal results. -/
module
public import proofs.«01_k».proof.Defs
public import proofs.«01_k».proof.Proof.RefD
public import proofs.«01_k».proof.Proof.FinD
public import proofs.«01_k».proof.Proof.PreD
@[expose] public section
noncomputable section
namespace Cert.AlgD
open Cert.DeltaIdeal Cert.DeltaIdeal.Gen Idealize.ShloMosaic Idealize.ShloMosaic.TcCoe Idealize.SL.Sem Cert.Scan Cert.KernD Cert.FinD

/-- The 2048 steps of an array, then `z` for ever. -/
def extend (z : ℝ) (f : Fin 2048 → ℝ) (t : ℕ) : ℝ := if h : t < 2048 then f ⟨t, h⟩ else z

theorem extend_eq (z : ℝ) (f : Fin 2048 → ℝ) (t : Fin 2048) : extend z f t = f t := dif_pos t.isLt

theorem tiny_le_one : tiny ≤ 1 := by unfold tiny; norm_num

/-- Under the precondition the arguments hold one recurrence per batch and head, and a real matrix. -/
theorem holds {m : (ℓ : Loc nD τ sig) → Buf (Elt Ideal) ℓ} (h : Cert.Pre_DeltaIdeal_delta_inputs m) (c : Dev nD) :
    ∃ (H : Fin 8 → Fin 16 → Seq) (w : Fin 1024 → Fin 1024 → ℝ), Holds m c H w := by
  obtain ⟨⟨f0, h0⟩, ⟨f1, h1⟩, ⟨f2, h2⟩, ⟨f3, h3⟩, ⟨f4, h4⟩, ⟨f5, h5⟩, hlo⟩ := Cert.Pre_delta_inputs.of_pre (h c)
  refine ⟨fun b h => ⟨fun t d => extend 0 (fun t => f0 (ix4 b h t d)) t, fun t d => extend 0 (fun t => f1 (ix4 b h t d)) t,
    fun t d => extend 0 (fun t => f2 (ix4 b h t d)) t, extend 1 fun t => f3 (ix3 b t h), extend 0 fun t => f4 (ix3 b t h)⟩, fun r s => f5 (ix2 r s), ?_⟩
  refine ⟨fun b h t d => (h0 _).trans (congrArg _ (extend_eq 0 (fun t => f0 (ix4 b h t d)) t).symm), fun b h t d => (h1 _).trans (congrArg _ (extend_eq 0 (fun t => f1 (ix4 b h t d)) t).symm),
    fun b h t d => (h2 _).trans (congrArg _ (extend_eq 0 (fun t => f2 (ix4 b h t d)) t).symm), fun b t h => (h3 _).trans (congrArg _ (extend_eq 1 (fun t => f3 (ix3 b t h)) t).symm),
    fun b t h => (h4 _).trans (congrArg _ (extend_eq 0 (fun t => f4 (ix3 b t h)) t).symm), fun _ _ => h5 _, fun b h t => ?_⟩
  show tiny ≤ extend 1 (fun t => f3 (ix3 b t h)) t
  unfold extend
  split
  · exact EReal.coe_le_coe_iff.1 ((hlo _).trans_eq (h3 _))
  · exact tiny_le_one

theorem algebraic : Cert.algebraic_DeltaIdeal_DeltaRefIdeal_pre_delta_inputs := by
  intro m g m' g' hpre hagree
  refine ⟨_, _, Cert.DeltaIdeal.Value.run_blocks m g, ?_⟩
  refine (θ_run _ _ _).mono (fun r h c => ?_) (Cert.DeltaRefIdeal.Value.run m' g')
  obtain ⟨r0, r1, ha⟩ := h c
  obtain ⟨a0, a1, a2, a3, a4, a5⟩ := hagree c
  obtain ⟨H, w, A⟩ := holds hpre c
  have hV := Cert.RefD.holds_iter (Cert.RefD.entry (H := H) m' c (fun b h t d => (congrFun a0 _).trans (A.q b h t d)) (fun b h t d => (congrFun a1 _).trans (A.k b h t d))
    (fun b h t d => (congrFun a2 _).trans (A.v b h t d)) (fun b t h => (congrFun a3 _).trans (A.a b t h)) (fun b t h => (congrFun a4 _).trans (A.b b t h))) 2048 le_rfl
  refine ⟨r0.trans ?_, r1.trans ?_, ha⟩
  · exact (final7 A _ fun b t r => Cert.RefD.proj hV w (fun r s => (congrFun ((Cert.DeltaRefIdeal.Value.iter_main_arg5 m' c 2048).trans a5) _).trans (A.w r s)) b t r).symm
  · exact (final8 A _ fun b h d e => hV.S b h d e).symm

end Cert.AlgD
end
-- ==== Proof.lean ====
/- The projection call and the recurrence's call: each runs and leaves its arguments unchanged; over the extended reals, on
   finite arguments, the first computes the reference's queries, keys, values and gates, and the second, from those, with decays
   not under the kernel's floor, the reference's outputs and final states. -/
module

public import proofs.«01_k».proof.Defs
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.Delta
public import proofs.«01_k».proof.Proof.Gen.Delta.Skeleton
public import proofs.«01_k».proof.Proof.Gen.Delta.Launch
public import proofs.«01_k».proof.Proof.Gen.Delta.Points
public import proofs.«01_k».proof.Proof.Gen.Delta.Frame
public import proofs.«01_k».proof.Proof.Gen.DeltaIdeal
public import proofs.«01_k».proof.Proof.Gen.DeltaIdeal.Skeleton
public import proofs.«01_k».proof.Proof.Gen.DeltaIdeal.Launch
public import proofs.«01_k».proof.Proof.Gen.DeltaIdeal.Points
public import proofs.«01_k».proof.Proof.Gen.DeltaIdeal.Frame
public import proofs.«01_k».proof.Proof.Gen.DeltaRefIdeal
public import proofs.«01_k».proof.Proof.Gen.Pre_proj_inputs
public import proofs.«01_k».proof.Proof.Gen.Pre_delta_inputs
public import proofs.«01_k».proof.Proof.AlgP
public import proofs.«01_k».proof.Proof.AlgD
public import Idealize.ShloMosaic.Lib.Claim
public import Idealize.ShloMosaic.Adequacy
public import Idealize.ShloMosaic.Init

@[expose] public section

noncomputable section

namespace Cert.Proof

open Idealize.ShloMosaic Idealize.SL.Sem Cert.Proj

/-- The references run and leave their arguments unchanged. -/
theorem frame_ref : Cert.quiescent_ProjRefIdeal := fun m g _ =>
  (θ_run _ _ _).mono (fun r h => ⟨fun c => (h c).2.2.2.2.2, sem_eq_zero_of_no_sems rfl r.2⟩) (Cert.ProjRefIdeal.Value.run m g)

theorem frame_refD : Cert.quiescent_DeltaRefIdeal := fun m g _ =>
  (θ_run _ _ _).mono (fun r h => ⟨fun c => (h c).2.2, sem_eq_zero_of_no_sems rfl r.2⟩) (Cert.DeltaRefIdeal.Value.run m g)

theorem claim : Cert.Claim := ⟨Cert.Proj.Gen.facts, Cert.ProjIdeal.Gen.facts, Cert.ProjRefIdeal.Gen.facts, Cert.Delta.Gen.facts, Cert.DeltaIdeal.Gen.facts,
  Cert.DeltaRefIdeal.Gen.facts, Cert.Pre_proj_inputs.Gen.facts, Cert.Pre_delta_inputs.Gen.facts,
  fun m g _ => Cert.Proj.Gen.frame m g, fun m g _ => Cert.ProjIdeal.Gen.frame m g, fun m g _ => Cert.ProjIdeal.Gen.frame m g,
  frame_ref, fun m g _ => frame_ref m g trivial,
  fun m g _ => Cert.Delta.Gen.frame m g, fun m g _ => Cert.DeltaIdeal.Gen.frame m g, fun m g _ => Cert.DeltaIdeal.Gen.frame m g,
  frame_refD, fun m g _ => frame_refD m g trivial,
  trivial, Cert.AlgP.algebraic, trivial, Cert.AlgD.algebraic⟩

end Cert.Proof

end
